-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_weights_finite [hPre_router_weights_finite : Cert.Pre_router_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_weights_finite [hPre_router_weights_finite : Cert.Pre_router_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_router_weights_finite [hKernelIdeal : Cert.KernelIdeal.Facts] [hPre_router_weights_finite : Cert.Pre_router_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_router_weights_finite [hReferenceIdeal : Cert.ReferenceIdeal.Facts] [hPre_router_weights_finite : Cert.Pre_router_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_router_weights_finite [hKernelIdeal : Cert.KernelIdeal.Facts] [hReferenceIdeal : Cert.ReferenceIdeal.Facts] [hPre_router_weights_finite : Cert.Pre_router_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v105) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_router_weights_finite : Cert.Pre_router_weights_finite.Facts),
    quiescent_Kernel (hKernel := hKernel)
    ∧ quiescent_KernelIdeal (hKernelIdeal := hKernelIdeal)
    ∧ quiescent_KernelIdeal_pre_router_weights_finite (hKernelIdeal := hKernelIdeal) (hPre_router_weights_finite := hPre_router_weights_finite)
    ∧ quiescent_ReferenceIdeal (hReferenceIdeal := hReferenceIdeal)
    ∧ quiescent_ReferenceIdeal_pre_router_weights_finite (hReferenceIdeal := hReferenceIdeal) (hPre_router_weights_finite := hPre_router_weights_finite)
    ∧ preserves_Kernel_KernelIdeal
    ∧ algebraic_KernelIdeal_ReferenceIdeal_pre_router_weights_finite (hKernelIdeal := hKernelIdeal) (hReferenceIdeal := hReferenceIdeal) (hPre_router_weights_finite := hPre_router_weights_finite)
-- ==== Pre_router_weights_finite.lean ====
abbrev S32x8x768 : Shape := ⟨3, ![32, 8, 768]⟩
abbrev S768 : Shape := ⟨1, ![768]⟩
abbrev S768x8 : Shape := ⟨2, ![768, 8]⟩
abbrev S8 : Shape := ⟨1, ![8]⟩
abbrev S_ : Shape := ⟨0, ![]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩

class Facts : Prop where
  bcast_S_S768 : S_.BroadcastsInDim S768 (![] : Fin 0 → Fin S768.rank)
  reducesTo_S768_S_d0 : S768.ReducesTo [0] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S32x8x768 .f32) (main_arg1 : FVec F S768 .f32) (main_arg2 : FVec F S768 .f32) (main_arg3 : FVec F S768x8 .f32) (main_arg4 : FVec F S8 .f32) (main_arg5 : FVec F S_ .f32) (main_arg6 : FVec F S8x768x3072 .f32) (main_arg7 : FVec F S8x3072 .f32) (main_arg8 : FVec F S8x3072x768 .f32) (main_arg9 : FVec F S8x768 .f32) : IVec S_ 1 :=
  let main_v0 : FVec F S768 .f32 := Host.absf main_arg1
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S768 .f32 := Host.absf main_arg2
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x8 .f32 := Host.absf main_arg3
  let main_cst_2 : FVec F S_ .f32 := constant S_ .f32 0x7F800000#32
  let main_v10 : FVec F S768x8 .f32 := broadcastInDim S768x8 ![] bcast_S_S768x8 main_cst_2
  let main_v11 : IVec S768x8 1 := cmpf .olt main_v9 main_v10
  let main_c_3 : IVec S_ 1 := constantI S_ 1 1#1
  let main_v12 : IVec S_ 1 := (fun x v => Host.reduce IntOp.andi x v reducesTo_S768x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S32x8x768 : Shape := ⟨3, ![32, 8, 768]⟩
abbrev S768 : Shape := ⟨1, ![768]⟩
abbrev S768x8 : Shape := ⟨2, ![768, 8]⟩
abbrev S8 : Shape := ⟨1, ![8]⟩
abbrev S_ : Shape := ⟨0, ![]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S256x768 : Shape := ⟨2, ![256, 768]⟩
abbrev S1x768 : Shape := ⟨2, ![1, 768]⟩
abbrev S1x8 : Shape := ⟨2, ![1, 8]⟩
abbrev S1x1 : Shape := ⟨2, ![1, 1]⟩
abbrev S8x1x3072 : Shape := ⟨3, ![8, 1, 3072]⟩
abbrev S1x768x1536 : Shape := ⟨3, ![1, 768, 1536]⟩
abbrev S1x1x1536 : Shape := ⟨3, ![1, 1, 1536]⟩
abbrev S1x1536x768 : Shape := ⟨3, ![1, 1536, 768]⟩
abbrev S256x8 : Shape := ⟨2, ![256, 8]⟩
abbrev S256 : Shape := ⟨1, ![256]⟩
abbrev S256x1 : Shape := ⟨2, ![256, 1]⟩
abbrev S1x256 : Shape := ⟨2, ![1, 256]⟩
abbrev S1 : Shape := ⟨1, ![1]⟩
abbrev S768x1536 : Shape := ⟨2, ![768, 1536]⟩
abbrev S256x1536 : Shape := ⟨2, ![256, 1536]⟩
abbrev S1x1536 : Shape := ⟨2, ![1, 1536]⟩
abbrev S1536x768 : Shape := ⟨2, ![1536, 768]⟩

abbrev nBuf : Space → Nat
  | .hbm => 27
  | .vmem => 17
  | .smem => 0
  | _ => 0

abbrev bufTy : (tb : Table) → Fin (tcTables nBuf tb) → BufTy
  | .hbm, ⟨0, _⟩ => ⟨S32x8x768, .f32⟩
  | .hbm, ⟨1, _⟩ => ⟨S768, .f32⟩
  | .hbm, ⟨2, _⟩ => ⟨S768, .f32⟩
  | .hbm, ⟨3, _⟩ => ⟨S768x8, .f32⟩
  | .hbm, ⟨4, _⟩ => ⟨S8, .f32⟩
  | .hbm, ⟨5, _⟩ => ⟨S_, .f32⟩
  | .hbm, ⟨6, _⟩ => ⟨S8x768x3072, .f32⟩
  | .hbm, ⟨7, _⟩ => ⟨S8x3072, .f32⟩
  | .hbm, ⟨8, _⟩ => ⟨S8x3072x768, .f32⟩
  | .hbm, ⟨9, _⟩ => ⟨S8x768, .f32⟩
  | .hbm, ⟨10, _⟩ => ⟨S256x768, .f32⟩
  | .hbm, ⟨11, _⟩ => ⟨S1x768, .f32⟩
  | .hbm, ⟨12, _⟩ => ⟨S1x768, .f32⟩
  | .hbm, ⟨13, _⟩ => ⟨S1x8, .f32⟩
  | .hbm, ⟨14, _⟩ => ⟨S1x1, .f32⟩
  | .hbm, ⟨15, _⟩ => ⟨S8x1x3072, .f32⟩
  | .hbm, ⟨16, _⟩ => ⟨S256x768, .f32⟩
  | .hbm, ⟨17, _⟩ => ⟨S1x8, .f32⟩
  | .hbm, ⟨18, _⟩ => ⟨S32x8x768, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S1x1, .f32⟩
  | .hbm, ⟨26, _⟩ => ⟨S_, .f32⟩
  | .local _ .vmem, ⟨0, _⟩ => ⟨S256x768, .f32⟩
  | .local _ .vmem, ⟨1, _⟩ => ⟨S1x768, .f32⟩
  | .local _ .vmem, ⟨2, _⟩ => ⟨S1x768, .f32⟩
  | .local _ .vmem, ⟨3, _⟩ => ⟨S768x8, .f32⟩
  | .local _ .vmem, ⟨4, _⟩ => ⟨S1x8, .f32⟩
  | .local _ .vmem, ⟨5, _⟩ => ⟨S1x1, .f32⟩
  | .local _ .vmem, ⟨6, _⟩ => ⟨S8x768, .f32⟩
  | .local _ .vmem, ⟨7, _⟩ => ⟨S1x768x1536, .f32⟩
  | .local _ .vmem, ⟨8, _⟩ => ⟨S1x768x1536, .f32⟩
  | .local _ .vmem, ⟨9, _⟩ => ⟨S1x1x1536, .f32⟩
  | .local _ .vmem, ⟨10, _⟩ => ⟨S1x1x1536, .f32⟩
  | .local _ .vmem, ⟨11, _⟩ => ⟨S1x1536x768, .f32⟩
  | .local _ .vmem, ⟨12, _⟩ => ⟨S1x1536x768, .f32⟩
  | .local _ .vmem, ⟨13, _⟩ => ⟨S256x768, .f32⟩
  | .local _ .vmem, ⟨14, _⟩ => ⟨S1x8, .f32⟩
  | .local _ .vmem, ⟨15, _⟩ => ⟨S256x8, .f32⟩
  | .local _ .vmem, ⟨16, _⟩ => ⟨S256x768, .bf16⟩
  | _, _ => ⟨S32x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6_0 : Ref sig .tc := ⟨.hbm, 16, rfl⟩
abbrev main_call0_v6_1 : Ref sig .tc := ⟨.hbm, 17, rfl⟩
abbrev main_v0_0 : Ref sig .tc := ⟨.hbm, 18, rfl⟩
abbrev main_call0_v8 : Ref sig .tc := ⟨.hbm, 19, rfl⟩
abbrev main_v0_1 : Ref sig .tc := ⟨.hbm, 20, rfl⟩
abbrev main_call0_v10 : Ref sig .tc := ⟨.hbm, 21, rfl⟩
abbrev main_v0_2 : Ref sig .tc := ⟨.hbm, 22, rfl⟩
abbrev main_call0_v12 : Ref sig .tc := ⟨.hbm, 23, rfl⟩
abbrev main_v0_3 : Ref sig .tc := ⟨.hbm, 24, rfl⟩
abbrev main_call0_v14 : Ref sig .tc := ⟨.hbm, 25, rfl⟩
abbrev main_v0_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1536x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S256x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S32x8x768 : Shape := ⟨3, ![32, 8, 768]⟩
abbrev S768 : Shape := ⟨1, ![768]⟩
abbrev S768x8 : Shape := ⟨2, ![768, 8]⟩
abbrev S8 : Shape := ⟨1, ![8]⟩
abbrev S_ : Shape := ⟨0, ![]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S32x8 : Shape := ⟨2, ![32, 8]⟩
abbrev S32x8x1 : Shape := ⟨3, ![32, 8, 1]⟩
abbrev S1x1x768 : Shape := ⟨3, ![1, 1, 768]⟩
abbrev S32x8x8 : Shape := ⟨3, ![32, 8, 8]⟩
abbrev S1x1x8 : Shape := ⟨3, ![1, 1, 8]⟩
abbrev S32x8x2 : Shape := ⟨3, ![32, 8, 2]⟩
abbrev S32x8x8x3072 : Shape := ⟨4, ![32, 8, 8, 3072]⟩
abbrev S1x1x8x3072 : Shape := ⟨4, ![1, 1, 8, 3072]⟩
abbrev S8x768x32x8 : Shape := ⟨4, ![8, 768, 32, 8]⟩
abbrev S32x8x8x768 : Shape := ⟨4, ![32, 8, 8, 768]⟩
abbrev S1x1x8x768 : Shape := ⟨4, ![1, 1, 8, 768]⟩
abbrev S32x8x2x1 : Shape := ⟨4, ![32, 8, 2, 1]⟩
abbrev S1 : Shape := ⟨1, ![1]⟩
abbrev S1x1x1x1 : Shape := ⟨4, ![1, 1, 1, 1]⟩
abbrev S32x8x2x768 : Shape := ⟨4, ![32, 8, 2, 768]⟩

abbrev nBuf : Space → Nat
  | .hbm => 172
  | .vmem => 0
  | .smem => 0
  | _ => 0

abbrev hbmTy0_0 (i : Nat) : BufTy := match i % 128 with
  | 0 => ⟨S32x8x768, .f32⟩
  | 1 => ⟨S768, .f32⟩
  | 2 => ⟨S768, .f32⟩
  | 3 => ⟨S768x8, .f32⟩
  | 4 => ⟨S8, .f32⟩
  | 5 => ⟨S_, .f32⟩
  | 6 => ⟨S8x768x3072, .f32⟩
  | 7 => ⟨S8x3072, .f32⟩
  | 8 => ⟨S8x3072x768, .f32⟩
  | 9 => ⟨S8x768, .f32⟩
  | 10 => ⟨S_, .f32⟩
  | 11 => ⟨S32x8, .f32⟩
  | 12 => ⟨S32x8x1, .f32⟩
  | 13 => ⟨S_, .f32⟩
  | 14 => ⟨S32x8x1, .f32⟩
  | 15 => ⟨S32x8x1, .f32⟩
  | 16 => ⟨S32x8x768, .f32⟩
  | 17 => ⟨S32x8x768, .f32⟩
  | 18 => ⟨S32x8x768, .f32⟩
  | 19 => ⟨S_, .f32⟩
  | 20 => ⟨S32x8, .f32⟩
  | 21 => ⟨S32x8x1, .f32⟩
  | 22 => ⟨S_, .f32⟩
  | 23 => ⟨S32x8x1, .f32⟩
  | 24 => ⟨S32x8x1, .f32⟩
  | 25 => ⟨S32x8x768, .f32⟩
  | 26 => ⟨S32x8x768, .f32⟩
  | 27 => ⟨S_, .f32⟩
  | 28 => ⟨S32x8x1, .f32⟩
  | 29 => ⟨S32x8x1, .f32⟩
  | 30 => ⟨S32x8x1, .f32⟩
  | 31 => ⟨S32x8x768, .f32⟩
  | 32 => ⟨S32x8x768, .f32⟩
  | 33 => ⟨S1x1x768, .f32⟩
  | 34 => ⟨S32x8x768, .f32⟩
  | 35 => ⟨S32x8x768, .f32⟩
  | 36 => ⟨S1x1x768, .f32⟩
  | 37 => ⟨S32x8x768, .f32⟩
  | 38 => ⟨S32x8x768, .f32⟩
  | 39 => ⟨S32x8x8, .f32⟩
  | 40 => ⟨S1x1x8, .f32⟩
  | 41 => ⟨S32x8x8, .f32⟩
  | 42 => ⟨S32x8x8, .f32⟩
  | 43 => ⟨S_, .f32⟩
  | 44 => ⟨S_, .f32⟩
  | 45 => ⟨S_, .f32⟩
  | 46 => ⟨S32x8x8, .f32⟩
  | 47 => ⟨S32x8x8, .f32⟩
  | 48 => ⟨S32x8x2, .f32⟩
  | 49 => ⟨S32x8x2, .i32⟩
  | 50 => ⟨S_, .f32⟩
  | 51 => ⟨S32x8, .f32⟩
  | 52 => ⟨S_, .f32⟩
  | 53 => ⟨S32x8, .f32⟩
  | 54 => ⟨S32x8, .f32⟩
  | 55 => ⟨S32x8x1, .f32⟩
  | 56 => ⟨S32x8x2, .f32⟩
  | 57 => ⟨S32x8x2, .f32⟩
  | 58 => ⟨S32x8x2, .f32⟩
  | 59 => ⟨S_, .f32⟩
  | 60 => ⟨S32x8, .f32⟩
  | 61 => ⟨S32x8x1, .f32⟩
  | 62 => ⟨S32x8x2, .f32⟩
  | 63 => ⟨S32x8x2, .f32⟩
  | 64 => ⟨S32x8x8x3072, .f32⟩
  | 65 => ⟨S1x1x8x3072, .f32⟩
  | 66 => ⟨S32x8x8x3072, .f32⟩
  | 67 => ⟨S32x8x8x3072, .f32⟩
  | 68 => ⟨S_, .f32⟩
  | 69 => ⟨S32x8x8x3072, .f32⟩
  | 70 => ⟨S32x8x8x3072, .f32⟩
  | 71 => ⟨S32x8x8x3072, .f32⟩
  | 72 => ⟨S_, .f32⟩
  | 73 => ⟨S32x8x8x3072, .f32⟩
  | 74 => ⟨S32x8x8x3072, .f32⟩
  | 75 => ⟨S32x8x8x3072, .f32⟩
  | 76 => ⟨S32x8x8x3072, .f32⟩
  | 77 => ⟨S8x768x32x8, .f32⟩
  | 78 => ⟨S32x8x8x768, .f32⟩
  | 79 => ⟨S1x1x8x768, .f32⟩
  | 80 => ⟨S32x8x8x768, .f32⟩
  | 81 => ⟨S32x8x8x768, .f32⟩
  | 82 => ⟨S32x8x2x1, .i32⟩
  | 83 => ⟨S_, .i32⟩
  | 84 => ⟨S32x8x2x1, .i32⟩
  | 85 => ⟨S32x8x2x1, .i1⟩
  | 86 => ⟨S_, .i32⟩
  | 87 => ⟨S32x8x2x1, .i32⟩
  | 88 => ⟨S32x8x2x1, .i32⟩
  | 89 => ⟨S32x8x2x1, .i32⟩
  | 90 => ⟨S1, .i32⟩
  | 91 => ⟨S_, .i32⟩
  | 92 => ⟨S32x8x2x1, .i32⟩
  | 93 => ⟨S32x8x2x1, .i1⟩
  | 94 => ⟨S1x1x1x1, .i32⟩
  | 95 => ⟨S32x8x2x1, .i32⟩
  | 96 => ⟨S32x8x2x1, .i1⟩
  | 97 => ⟨S32x8x2x1, .i1⟩
  | 98 => ⟨S_, .i1⟩
  | 99 => ⟨S32x8x2, .i1⟩
  | 100 => ⟨S32x8x2x768, .f32⟩
  | 101 => ⟨S32x8x2x768, .i1⟩
  | 102 => ⟨S_, .f32⟩
  | 103 => ⟨S32x8x2x768, .f32⟩
  | 104 => ⟨S32x8x2x768, .f32⟩
  | 105 => ⟨S32x8x2x1, .f32⟩
  | 106 => ⟨S32x8x2x768, .f32⟩
  | 107 => ⟨S32x8x2x768, .f32⟩
  | 108 => ⟨S_, .f32⟩
  | 109 => ⟨S32x8x768, .f32⟩
  | 110 => ⟨S_, .f32⟩
  | 111 => ⟨S32x8, .f32⟩
  | 112 => ⟨S_, .f32⟩
  | 113 => ⟨S32x8, .f32⟩
  | 114 => ⟨S32x8, .f32⟩
  | 115 => ⟨S32x8x1, .f32⟩
  | 116 => ⟨S32x8x8, .f32⟩
  | 117 => ⟨S32x8x8, .f32⟩
  | 118 => ⟨S32x8x8, .f32⟩
  | 119 => ⟨S_, .f32⟩
  | 120 => ⟨S32x8, .f32⟩
  | 121 => ⟨S32x8x1, .f32⟩
  | 122 => ⟨S32x8x8, .f32⟩
  | 123 => ⟨S32x8x8, .f32⟩
  | 124 => ⟨S_, .f32⟩
  | 125 => ⟨S8, .f32⟩
  | 126 => ⟨S_, .f32⟩
  | 127 => ⟨S8, .f32⟩
  | _ => ⟨S32x8x768, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S8, .f32⟩
  | 5 => ⟨S_, .f32⟩
  | 6 => ⟨S_, .f32⟩
  | 7 => ⟨S_, .f32⟩
  | 8 => ⟨S_, .f32⟩
  | 9 => ⟨S_, .f32⟩
  | 10 => ⟨S32x8, .f32⟩
  | 11 => ⟨S32x8x1, .f32⟩
  | 12 => ⟨S32x8x8, .f32⟩
  | 13 => ⟨S32x8x8, .f32⟩
  | 14 => ⟨S32x8x8, .f32⟩
  | 15 => ⟨S_, .f32⟩
  | 16 => ⟨S32x8, .f32⟩
  | 17 => ⟨S32x8, .f32⟩
  | 18 => ⟨S32x8, .f32⟩
  | 19 => ⟨S32x8, .f32⟩
  | 20 => ⟨S32x8, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S32x8x8, .f32⟩
  | 28 => ⟨S32x8x8, .f32⟩
  | 29 => ⟨S32x8x8, .f32⟩
  | 30 => ⟨S32x8x8, .f32⟩
  | 31 => ⟨S_, .f32⟩
  | 32 => ⟨S32x8, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S32x8x768, .f32⟩

abbrev hbmTy (i : Nat) : BufTy := match i / 128 with
  | 0 => hbmTy0_0 i
  | 1 => hbmTy0_1 i
  | _ => ⟨S32x8x768, .f32⟩

abbrev bufTy : (tb : Table) → Fin (tcTables nBuf tb) → BufTy
  | .hbm, ⟨i, _⟩ => hbmTy i
  | _, _ => ⟨S32x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_values : Ref sig .tc := ⟨.hbm, 48, rfl⟩
abbrev main_indices : Ref sig .tc := ⟨.hbm, 49, rfl⟩
abbrev main_cst_5 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_c_1 : Ref sig .tc := ⟨.hbm, 90, rfl⟩
abbrev main_call1_c_2 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_c_3 : Ref sig .tc := ⟨.hbm, 98, rfl⟩
abbrev main_call1_v11 : Ref sig .tc := ⟨.hbm, 99, rfl⟩
abbrev main_call1_v12 : Ref sig .tc := ⟨.hbm, 100, rfl⟩
abbrev main_call1_v13 : Ref sig .tc := ⟨.hbm, 101, rfl⟩
abbrev main_call1_cst : Ref sig .tc := ⟨.hbm, 102, rfl⟩
abbrev main_call1_v14 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_10 : Ref sig .tc := ⟨.hbm, 108, rfl⟩
abbrev main_v63 : Ref sig .tc := ⟨.hbm, 109, rfl⟩
abbrev main_cst_11 : Ref sig .tc := ⟨.hbm, 110, rfl⟩
abbrev main_v64 : Ref sig .tc := ⟨.hbm, 111, rfl⟩
abbrev main_cst_12 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_13 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_14 : Ref sig .tc := ⟨.hbm, 124, rfl⟩
abbrev main_v75 : Ref sig .tc := ⟨.hbm, 125, rfl⟩
abbrev main_cst_15 : Ref sig .tc := ⟨.hbm, 126, rfl⟩
abbrev main_v76 : Ref sig .tc := ⟨.hbm, 127, rfl⟩
abbrev main_v77 : Ref sig .tc := ⟨.hbm, 128, rfl⟩
abbrev main_cst_16 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_17 : Ref sig .tc := ⟨.hbm, 133, rfl⟩
abbrev main_v81 : Ref sig .tc := ⟨.hbm, 134, rfl⟩
abbrev main_cst_18 : Ref sig .tc := ⟨.hbm, 135, rfl⟩
abbrev main_v82 : Ref sig .tc := ⟨.hbm, 136, rfl⟩
abbrev main_cst_19 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_20 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_21 : Ref sig .tc := ⟨.hbm, 149, rfl⟩
abbrev main_v93 : Ref sig .tc := ⟨.hbm, 150, rfl⟩
abbrev main_cst_22 : Ref sig .tc := ⟨.hbm, 151, rfl⟩
abbrev main_v94 : Ref sig .tc := ⟨.hbm, 152, rfl⟩
abbrev main_cst_23 : Ref sig .tc := ⟨.hbm, 153, rfl⟩
abbrev main_call2_v0 : Ref sig .tc := ⟨.hbm, 154, rfl⟩
abbrev main_call2_v1 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_24 : Ref sig .tc := ⟨.hbm, 159, rfl⟩
abbrev main_v98 : Ref sig .tc := ⟨.hbm, 160, rfl⟩
abbrev main_cst_25 : Ref sig .tc := ⟨.hbm, 161, rfl⟩
abbrev main_v99 : Ref sig .tc := ⟨.hbm, 162, rfl⟩
abbrev main_cst_26 : Ref sig .tc := ⟨.hbm, 163, rfl⟩
abbrev main_v100 : Ref sig .tc := ⟨.hbm, 164, rfl⟩
abbrev main_v101 : Ref sig .tc := ⟨.hbm, 165, rfl⟩
abbrev main_cst_27 : Ref sig .tc := ⟨.hbm, 166, rfl⟩
abbrev main_v102 : Ref sig .tc := ⟨.hbm, 167, rfl⟩
abbrev main_v103 : Ref sig .tc := ⟨.hbm, 168, rfl⟩
abbrev main_cst_28 : Ref sig .tc := ⟨.hbm, 169, rfl⟩
abbrev main_v104 : Ref sig .tc := ⟨.hbm, 170, rfl⟩
abbrev main_v105 : Ref sig .tc := ⟨.hbm, 171, rfl⟩

abbrev nD : Nat := 1
abbrev τ : Topo := Topo.v7x

variable {F : FTy → Type} [FloatOps F]
-- ==== Proof.KernelIdealRun.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Claim
public import Idealize.ShloMosaic.Lib.VecWindow
public import Idealize.ShloMosaic.Lib.Tactic.Stretches

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer reads what the buffer holds. -/
theorem load_whole {s : Shape} {e : EltTy} {M : Memref sig .tc .vmem s e} (h : M.IsWhole) (X : s.Idx → Elt F e) {off : Fin s.rank → ℕ}
    (inb : ∀ a, off a + s.size a ≤ s.size a) :
    M.view.readAt (Elt F) (Rect.unit off s.size inb).toLoadRect (h.unread X) = X := by
  rw [View.readAt_full, h.read_unread]

/-- The router's logits of one whole block of rows: layer norm, then the router matrix, its bias and the temperature. -/
def logits (x0 : Vec F S256x768 .f32) (x1 x2 : Vec F S1x768 .f32) (x3 : Vec F S768x8 .f32) (x4 : Vec F S1x8 .f32) (x5 : Vec F S1x1 .f32) : FVec F S256x8 .f32 :=
  k0_pay2 x0 x1 x2 x5 x3 x4

/-- The dense gate matrix of the logits: per row the two chosen experts' weights, zero elsewhere. -/
def gates (L : FVec F S256x8 .f32) : FVec F S256x8 .f32 := k0_pay4 L (iota .tc S256x8 32 [1] iota_S256x8_d1_w32)

/-- The row of router statistics of the logits. -/
def stats (L : FVec F S256x8 .f32) : FVec F S1x8 .f32 :=
  k0_pay13 (k0_pay8 (k0_pay3 L) (k0_pay5 L)) (k0_pay10 (k0_pay5 L)) (k0_pay11 (k0_pay3 L) (k0_pay5 L))
    (FloatOps.ofBits .f32 0x00000000#32) (FloatOps.ofBits .f32 0x00000000#32) (FloatOps.ofBits .f32 0x00000000#32) (FloatOps.ofBits .f32 0x00000000#32) (k0_pay12 (k0_pay5 L))

/-- One grid point's update of the output block: the point's expert contribution, scaled by the gates of its expert, is added. -/
def step (i : grid0.Coords) (acc : Vec F S256x768 .f32) (g : Vec F S256x8 .f32) (xb : Vec F S256x768 .bf16)
    (x7 : Vec F S1x768x1536 .f32) (x8 : Vec F S1x1x1536 .f32) (x9 : Vec F S1x1536x768 .f32) : FVec F S256x768 .f32 :=
  k0_pay1 (k0_pay16 xb x7 x8 x9) (k0_pay17 i g) acc

set_option maxHeartbeats 4000000 in
/-- The body at the first grid point, on any whole staging buffers: it computes the logits, leaves the gate matrix and the rounded input in the scratch, the statistics in their block, and the first update over the gated biases in the output block. -/
theorem run_first (c : Dev nD) (i : grid0.Coords) (arg2 : Memref sig .tc .vmem S256x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x8 .f32) (harg5 : arg5.IsWhole) (arg6 : Memref sig .tc .vmem S1x8 .f32) (harg6 : arg6.IsWhole) (arg7 : Memref sig .tc .vmem S1x1 .f32) (harg7 : arg7.IsWhole) (arg8 : Memref sig .tc .vmem S8x768 .f32) (harg8 : arg8.IsWhole) (arg9 : Memref sig .tc .vmem S1x768x1536 .f32) (harg9 : arg9.IsWhole) (arg10 : Memref sig .tc .vmem S1x1x1536 .f32) (harg10 : arg10.IsWhole) (arg11 : Memref sig .tc .vmem S1x1536x768 .f32) (harg11 : arg11.IsWhole) (arg12 : Memref sig .tc .vmem S256x768 .f32) (harg12 : arg12.IsWhole) (arg13 : Memref sig .tc .vmem S1x8 .f32) (harg13 : arg13.IsWhole) (arg14 : Memref sig .tc .vmem S256x8 .f32) (harg14 : arg14.IsWhole) (arg15 : Memref sig .tc .vmem S256x768 .bf16) (harg15 : arg15.IsWhole) (hc0 : k0_cond1 i = 1#1)
    (x0 : Vec F S256x768 .f32) (x1 : Vec F S1x768 .f32) (x2 : Vec F S1x768 .f32) (x3 : Vec F S768x8 .f32) (x4 : Vec F S1x8 .f32) (x5 : Vec F S1x1 .f32) (x6 : Vec F S8x768 .f32) (x7 : Vec F S1x768x1536 .f32) (x8 : Vec F S1x1x1536 .f32) (x9 : Vec F S1x1536x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (step i (k0_pay15 (gates (logits x0 x1 x2 x3 x4 x5)) x6) (gates (logits x0 x1 x2 x3 x4 x5)) (k0_pay14 x0) x7 x8 x9) ∗ owns (c : Thread nD τ) arg13 fullShare (stats (logits x0 x1 x2 x3 x4 x5)) ∗ owns (c : Thread nD τ) arg14 fullShare (gates (logits x0 x1 x2 x3 x4 x5)) ∗ owns (c : Thread nD τ) arg15 fullShare (k0_pay14 x0)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr
    swap; · iexact H10
    ipureintro
    refine (View.read_writes_full _ _ _ _ _).trans ?_
    sl_open_run
    simp only [load_whole harg2 x0, load_whole harg3 x1, load_whole harg4 x2, load_whole harg5 x3, load_whole harg6 x4, load_whole harg7 x5, View.readCov_full arg12.view, View.readCov_full arg14.view, View.readCov_full arg15.view, load_whole harg8 x6, load_whole harg9 x7, load_whole harg10 x8, load_whole harg11 x9]
    delta step gates logits
    with_reducible rfl
  isplitl [H11]
  · iexists _; isplitr
    swap; · iexact H11
    ipureintro
    refine (View.read_writes_full _ _ _ _ _).trans ?_
    sl_open_run
    simp only [load_whole harg2 x0, load_whole harg3 x1, load_whole harg4 x2, load_whole harg5 x3, load_whole harg6 x4, load_whole harg7 x5]
    delta stats logits
    with_reducible rfl
  isplitl [HS0]
  · iexists _; isplitr
    swap; · iexact HS0
    ipureintro
    sl_open_run
    refine (View.read_writes_full _ _ _ _ _).trans ?_
    simp only [load_whole harg2 x0, load_whole harg3 x1, load_whole harg4 x2, load_whole harg5 x3, load_whole harg6 x4, load_whole harg7 x5]
    delta gates logits
    with_reducible rfl
  iexists _; isplitr
  swap; · iexact HS1
  ipureintro
  sl_open_run
  refine (View.read_writes_full _ _ _ _ _).trans ?_
  exact congrArg k0_pay14 (load_whole harg2 x0 _)

set_option maxHeartbeats 4000000 in
/-- The body at any later grid point, on any whole staging buffers: one more update of the output block; the statistics block and the scratch are left as they are. -/
theorem run_later (c : Dev nD) (i : grid0.Coords) (arg2 : Memref sig .tc .vmem S256x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x8 .f32) (harg5 : arg5.IsWhole) (arg6 : Memref sig .tc .vmem S1x8 .f32) (harg6 : arg6.IsWhole) (arg7 : Memref sig .tc .vmem S1x1 .f32) (harg7 : arg7.IsWhole) (arg8 : Memref sig .tc .vmem S8x768 .f32) (harg8 : arg8.IsWhole) (arg9 : Memref sig .tc .vmem S1x768x1536 .f32) (harg9 : arg9.IsWhole) (arg10 : Memref sig .tc .vmem S1x1x1536 .f32) (harg10 : arg10.IsWhole) (arg11 : Memref sig .tc .vmem S1x1536x768 .f32) (harg11 : arg11.IsWhole) (arg12 : Memref sig .tc .vmem S256x768 .f32) (harg12 : arg12.IsWhole) (arg13 : Memref sig .tc .vmem S1x8 .f32) (harg13 : arg13.IsWhole) (arg14 : Memref sig .tc .vmem S256x8 .f32) (harg14 : arg14.IsWhole) (arg15 : Memref sig .tc .vmem S256x768 .bf16) (harg15 : arg15.IsWhole) (hc0 : ¬ k0_cond1 i = 1#1)
    (x0 : Vec F S256x768 .f32) (x1 : Vec F S1x768 .f32) (x2 : Vec F S1x768 .f32) (x3 : Vec F S768x8 .f32) (x4 : Vec F S1x8 .f32) (x5 : Vec F S1x1 .f32) (x6 : Vec F S8x768 .f32) (x7 : Vec F S1x768x1536 .f32) (x8 : Vec F S1x1x1536 .f32) (x9 : Vec F S1x1536x768 .f32) (xo : Vec F S256x768 .f32) (g : Vec F S256x8 .f32) (xb : Vec F S256x768 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo ∗ owns (c : Thread nD τ) arg14 fullShare g ∗ owns (c : Thread nD τ) arg15 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (step i xo g xb x7 x8 x9) ∗ owns (c : Thread nD τ) arg14 fullShare g ∗ owns (c : Thread nD τ) arg15 fullShare xb) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg14.eq_unread hfs0; obtain rfl := harg15.eq_unread hfs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr
    swap; · iexact H10
    ipureintro
    refine (View.read_writes_full _ _ _ _ _).trans ?_
    sl_open_run
    exact congr (congr (congrArg k0_pay1 (congr (congr (congr (congrArg k0_pay16 (load_whole harg15 xb _)) (load_whole harg9 x7 _)) (load_whole harg10 x8 _))
      (load_whole harg11 x9 _))) (congrArg (k0_pay17 i) (load_whole harg14 g _))) (load_whole harg12 xo _)
  isplitl [HS0]
  · iexists _; isplitr; · ipureintro; exact harg14.read_unread _
    iexact HS0
  iexists _; isplitr; · ipureintro; exact harg15.read_unread _
  iexact HS1

end Cert.KernelIdeal.Body

end
-- ==== Proof.KernelIdealFrame.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealRun
public import Idealize.ShloMosaic.Lib.Claim
public import Idealize.ShloMosaic.Lib.VecWindow
public import Idealize.ShloMosaic.Lib.Tactic.Stretches

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## Which point takes the first branch -/

/-- The body's first branch is taken at the first grid point only. -/
theorem first_iff (t : Fin cfg0.N) : k0_cond1 (grid0.coords t) = 1#1 ↔ t.val % 16 = 0 := by
  have ht : t.val < 16 := Nat.lt_of_lt_of_eq t.isLt N_0
  have e0 : (grid0.coords t 0).val = t.val / 2 % 8 := Pipeline.Grid.coords_val t 0 (by decide) rfl
  have e1 : (grid0.coords t 1).val = t.val / 1 % 2 := Pipeline.Grid.coords_val t 1 (by decide) rfl
  simp only [k0_cond1, e0, e1]
  word_cmp

/-- The first grid point. -/
def pt0 : Fin cfg0.N := ⟨0, by rw [show cfg0.N = 16 from N_0]; omega⟩

/-! ## The buffers the body is called with -/

/-- The buffer that holds the token features at a point. -/
abbrev stg0 (t : Fin cfg0.N) : Memref sig .tc .vmem S256x768 .f32 := win0_0.stage (cfg0.slots t 0)
/-- The buffer that holds the layer norm's weights at a point. -/
abbrev stg1 (t : Fin cfg0.N) : Memref sig .tc .vmem S1x768 .f32 := win0_1.stage (cfg0.slots t 1)
/-- The buffer that holds the layer norm's biases at a point. -/
abbrev stg2 (t : Fin cfg0.N) : Memref sig .tc .vmem S1x768 .f32 := win0_2.stage (cfg0.slots t 2)
/-- The buffer that holds the router's weights at a point. -/
abbrev stg3 (t : Fin cfg0.N) : Memref sig .tc .vmem S768x8 .f32 := win0_3.stage (cfg0.slots t 3)
/-- The buffer that holds the router's biases at a point. -/
abbrev stg4 (t : Fin cfg0.N) : Memref sig .tc .vmem S1x8 .f32 := win0_4.stage (cfg0.slots t 4)
/-- The buffer that holds the temperature at a point. -/
abbrev stg5 (t : Fin cfg0.N) : Memref sig .tc .vmem S1x1 .f32 := win0_5.stage (cfg0.slots t 5)
/-- The buffer that holds the second biases at a point. -/
abbrev stg6 (t : Fin cfg0.N) : Memref sig .tc .vmem S8x768 .f32 := win0_6.stage (cfg0.slots t 6)
/-- The buffer that holds the half of the first weights at a point. -/
abbrev stg7 (t : Fin cfg0.N) : Memref sig .tc .vmem S1x768x1536 .f32 := win0_7.stage (cfg0.slots t 7)
/-- The buffer that holds the half of the first biases at a point. -/
abbrev stg8 (t : Fin cfg0.N) : Memref sig .tc .vmem S1x1x1536 .f32 := win0_8.stage (cfg0.slots t 8)
/-- The buffer that holds the half of the second weights at a point. -/
abbrev stg9 (t : Fin cfg0.N) : Memref sig .tc .vmem S1x1536x768 .f32 := win0_9.stage (cfg0.slots t 9)
/-- The buffer that holds the output at a point. -/
abbrev stg10 (t : Fin cfg0.N) : Memref sig .tc .vmem S256x768 .f32 := win0_10.stage (cfg0.slots t 10)
/-- The buffer that holds the statistics at a point. -/
abbrev stg11 (t : Fin cfg0.N) : Memref sig .tc .vmem S1x8 .f32 := win0_11.stage (cfg0.slots t 11)
/-- The scratch of the gates. -/
abbrev scr0 : Memref sig .tc .vmem S256x8 .f32 := Memref.whole cc0_scratch0
/-- The scratch of the rounded tokens. -/
abbrev scr1 : Memref sig .tc .vmem S256x768 .bf16 := Memref.whole cc0_scratch1

/-- What the region starts with besides the windows: both scratch buffers at anything, and the generator register. -/
theorem start_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## What the buffers hold -/

/-- The logits of the whole input, as the first point computes them. -/
def logitsAt (c : Dev nD) : FVec F S256x8 .f32 :=
  logits (iblk m c 0 pt0) (iblk m c 1 pt0) (iblk m c 2 pt0) (iblk m c 3 pt0) (iblk m c 4 pt0) (iblk m c 5 pt0)

/-- The gate matrix in the scratch. -/
def gatesAt (c : Dev nD) : Vec F S256x8 .f32 := gates (logitsAt m c)

/-- The rounded input in the scratch. -/
def roundedAt (c : Dev nD) : Vec F S256x768 .bf16 := k0_pay14 (iblk m c 0 pt0)

/-- The statistics block. -/
def statsAt (c : Dev nD) : Vec F S1x8 .f32 := stats (logitsAt m c)

/-- The output block after each point: the gated biases, then one update per point. -/
def outAt (c : Dev nD) : (n : ℕ) → n < cfg0.N → Vec F S256x768 .f32
  | 0, h => step (grid0.coords ⟨0, h⟩) (k0_pay15 (gatesAt m c) (iblk m c 6 pt0)) (gatesAt m c) (roundedAt m c) (iblk m c 7 ⟨0, h⟩) (iblk m c 8 ⟨0, h⟩) (iblk m c 9 ⟨0, h⟩)
  | n + 1, h => step (grid0.coords ⟨n + 1, h⟩) (outAt c n (Nat.lt_of_succ_lt h)) (gatesAt m c) (roundedAt m c) (iblk m c 7 ⟨n + 1, h⟩) (iblk m c 8 ⟨n + 1, h⟩) (iblk m c 9 ⟨n + 1, h⟩)

/-- The output block after a later point, over the point before. -/
theorem outAt_later (c : Dev nD) (t : Fin cfg0.N) (h : t.val ≠ 0) :
    outAt m c t.val t.isLt = step (grid0.coords t) (outAt m c (t.val - 1) (Nat.lt_of_le_of_lt (Nat.sub_le _ _) t.isLt)) (gatesAt m c) (roundedAt m c) (iblk m c 7 t) (iblk m c 8 t) (iblk m c 9 t) := by
  obtain ⟨n, hn⟩ := t
  cases n with
  | zero => exact absurd rfl h
  | succ n => rfl

/-- What holds between the points besides the windows: before the first anything; afterwards the gate matrix and the rounded input stay in the scratch. -/
def inv (c : Dev nD) : (n : ℕ) → n ≤ cfg0.N → sProp 𝕄
  | 0, _ => Pipeline.ΦA spec0 c
  | _ + 1, _ => iprop(iprop(owns (c : Thread nD τ) scr0 fullShare (gatesAt m c) ∗ owns (c : Thread nD τ) scr1 fullShare (roundedAt m c)) ∗ (∃ r, prngReg c r))

/-- Before the first point nothing is known of the scratch. -/
theorem inv_zero (c : Dev nD) (n : ℕ) (h : n ≤ cfg0.N) (hz : n = 0) : inv m c n h = Pipeline.ΦA spec0 c := by
  subst hz; rfl

/-- After a point the scratch holds the gates and the rounded tokens. -/
theorem inv_pos (c : Dev nD) (n : ℕ) (h : n ≤ cfg0.N) (hz : n ≠ 0) :
    inv m c n h = iprop(iprop(owns (c : Thread nD τ) scr0 fullShare (gatesAt m c) ∗ owns (c : Thread nD τ) scr1 fullShare (roundedAt m c)) ∗ (∃ r, prngReg c r)) := by
  cases n with
  | zero => exact absurd rfl hz
  | succ n => rfl

/-- The proof data: each input's buffer keeps its block, the output's holds `outAt`, the statistics' `statsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t.val t.isLt
    | ⟨11, _⟩ => statsAt m c
  Φ t := inv m c t.val (Nat.le_of_lt_succ t.isLt)
  q _ := fullShare
  owed _ := 0

/-- Each window's array starts as the launch finds it. -/
theorem dats_A (c : Dev nD) (w : Fin cfg0.W) : (dats m 0 c).A w = V m c (Pipeline.arrRef spec0 w) := by
  dsimp only [dats]

/-- What is held before a point, by its number. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- A point leaves the block of the token features as it was. -/
theorem left0 (c : Dev nD) (t : Fin cfg0.N) : (dats m 0 c).after 0 t = iblk m c 0 t := by dsimp only [dats]
/-- A point leaves the block of the layer norm's weights as it was. -/
theorem left1 (c : Dev nD) (t : Fin cfg0.N) : (dats m 0 c).after 1 t = iblk m c 1 t := by dsimp only [dats]
/-- A point leaves the block of the layer norm's biases as it was. -/
theorem left2 (c : Dev nD) (t : Fin cfg0.N) : (dats m 0 c).after 2 t = iblk m c 2 t := by dsimp only [dats]
/-- A point leaves the block of the router's weights as it was. -/
theorem left3 (c : Dev nD) (t : Fin cfg0.N) : (dats m 0 c).after 3 t = iblk m c 3 t := by dsimp only [dats]
/-- A point leaves the block of the router's biases as it was. -/
theorem left4 (c : Dev nD) (t : Fin cfg0.N) : (dats m 0 c).after 4 t = iblk m c 4 t := by dsimp only [dats]
/-- A point leaves the block of the temperature as it was. -/
theorem left5 (c : Dev nD) (t : Fin cfg0.N) : (dats m 0 c).after 5 t = iblk m c 5 t := by dsimp only [dats]
/-- A point leaves the block of the second biases as it was. -/
theorem left6 (c : Dev nD) (t : Fin cfg0.N) : (dats m 0 c).after 6 t = iblk m c 6 t := by dsimp only [dats]
/-- A point leaves the block of the half of the first weights as it was. -/
theorem left7 (c : Dev nD) (t : Fin cfg0.N) : (dats m 0 c).after 7 t = iblk m c 7 t := by dsimp only [dats]
/-- A point leaves the block of the half of the first biases as it was. -/
theorem left8 (c : Dev nD) (t : Fin cfg0.N) : (dats m 0 c).after 8 t = iblk m c 8 t := by dsimp only [dats]
/-- A point leaves the block of the half of the second weights as it was. -/
theorem left9 (c : Dev nD) (t : Fin cfg0.N) : (dats m 0 c).after 9 t = iblk m c 9 t := by dsimp only [dats]
/-- What a point leaves in the output's block. -/
theorem left10 (c : Dev nD) (t : Fin cfg0.N) : (dats m 0 c).after 10 t = outAt m c t.val t.isLt := by dsimp only [dats]
/-- What a point leaves in the statistics' block. -/
theorem left11 (c : Dev nD) (t : Fin cfg0.N) : (dats m 0 c).after 11 t = statsAt m c := by dsimp only [dats]
/-- A point finds the block of the token features that the arguments hold. -/
theorem found0 (c : Dev nD) (t : Fin cfg0.N) (d) : (dats m 0 c).before 0 t d = iblk m c 0 t :=
  before0_0_of m (dats m 0 c) (dats_A m c 0) (left0 m c) t d
/-- A point finds the block of the layer norm's weights that the arguments hold. -/
theorem found1 (c : Dev nD) (t : Fin cfg0.N) (d) : (dats m 0 c).before 1 t d = iblk m c 1 t :=
  before0_1_of m (dats m 0 c) (dats_A m c 1) (left1 m c) t d
/-- A point finds the block of the layer norm's biases that the arguments hold. -/
theorem found2 (c : Dev nD) (t : Fin cfg0.N) (d) : (dats m 0 c).before 2 t d = iblk m c 2 t :=
  before0_2_of m (dats m 0 c) (dats_A m c 2) (left2 m c) t d
/-- A point finds the block of the router's weights that the arguments hold. -/
theorem found3 (c : Dev nD) (t : Fin cfg0.N) (d) : (dats m 0 c).before 3 t d = iblk m c 3 t :=
  before0_3_of m (dats m 0 c) (dats_A m c 3) (left3 m c) t d
/-- A point finds the block of the router's biases that the arguments hold. -/
theorem found4 (c : Dev nD) (t : Fin cfg0.N) (d) : (dats m 0 c).before 4 t d = iblk m c 4 t :=
  before0_4_of m (dats m 0 c) (dats_A m c 4) (left4 m c) t d
/-- A point finds the block of the temperature that the arguments hold. -/
theorem found5 (c : Dev nD) (t : Fin cfg0.N) (d) : (dats m 0 c).before 5 t d = iblk m c 5 t :=
  before0_5_of m (dats m 0 c) (dats_A m c 5) (left5 m c) t d
/-- A point finds the block of the second biases that the arguments hold. -/
theorem found6 (c : Dev nD) (t : Fin cfg0.N) (d) : (dats m 0 c).before 6 t d = iblk m c 6 t :=
  before0_6_of m (dats m 0 c) (dats_A m c 6) (left6 m c) t d
/-- A point finds the block of the half of the first weights that the arguments hold. -/
theorem found7 (c : Dev nD) (t : Fin cfg0.N) (d) : (dats m 0 c).before 7 t d = iblk m c 7 t :=
  before0_7_of m (dats m 0 c) (dats_A m c 7) (left7 m c) t d
/-- A point finds the block of the half of the first biases that the arguments hold. -/
theorem found8 (c : Dev nD) (t : Fin cfg0.N) (d) : (dats m 0 c).before 8 t d = iblk m c 8 t :=
  before0_8_of m (dats m 0 c) (dats_A m c 8) (left8 m c) t d
/-- A point finds the block of the half of the second weights that the arguments hold. -/
theorem found9 (c : Dev nD) (t : Fin cfg0.N) (d) : (dats m 0 c).before 9 t d = iblk m c 9 t :=
  before0_9_of m (dats m 0 c) (dats_A m c 9) (left9 m c) t d
/-- At a later point the output's buffer holds what the point before left. -/
theorem found10 (c : Dev nD) (t : Fin cfg0.N) (h0 : t.val ≠ 0) (d) : (dats m 0 c).before 10 t d = outAt m c (t.val - 1) (Nat.lt_of_le_of_lt (Nat.sub_le _ _) t.isLt) := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]

/-- The statistics' buffer is stored to at the first point, -/
theorem live11 (t : Fin cfg0.N) (h : t.val = 0) : cfg0.idle 11 (cfg0.grid.coords t) = false := by
  show (!(k0_cond1 (grid0.coords t) == 1#1)) = false
  rw [(first_iff t).mpr (by omega)]; rfl

/-- and at no later one. -/
theorem idle11 (t : Fin cfg0.N) (h : t.val ≠ 0) : cfg0.idle 11 (cfg0.grid.coords t) = true := by
  have hN : t.val < 16 := lt_of_lt_of_eq t.isLt (show cfg0.N = 16 from N_0)
  show (!(k0_cond1 (grid0.coords t) == 1#1)) = true
  have hne : ¬ k0_cond1 (grid0.coords t) = 1#1 := fun e => h (by have := (first_iff t).mp e; omega)
  rw [Bool.not_eq_true', beq_eq_false_iff_ne]; exact hne

/-- At every later point the statistics' buffer still holds what the first one stored. -/
theorem found11 (c : Dev nD) : ∀ (n : ℕ) (hn : n + 1 < cfg0.N) (d), (dats m 0 c).before 11 ⟨n + 1, hn⟩ d = statsAt m c
  | n, hn, d => by
    have hN : n + 1 < 16 := lt_of_lt_of_eq hn (show cfg0.N = 16 from N_0)
    rw [(dats m 0 c).before_of_pos 11 ⟨n + 1, hn⟩ (Nat.succ_ne_zero n) ((cfg0.win 11).fetch_out rfl _) d,
      show (cfg0.win 11).flush ⟨n + 1 - 1, Nat.lt_of_le_of_lt (Nat.sub_le _ _) hn⟩ = false from
        Bool.eq_false_iff.mpr fun h => by have := (flush0_11 _).mp h; dsimp only at this; omega, if_neg Bool.false_ne_true]
    unfold Dat.left
    cases n with
    | zero =>
      rw [live11 _ rfl]
      dsimp only
      unfold Dat.kept
      rw [Pipeline.fill_of_clip_none (cfg := cfg0) 11 _ (fun _ => rfl) d ((dats m 0 c).after 11 _), Pipeline.Window.fill_cut]
      exact left11 m c _
    | succ k =>
      rw [idle11 _ (Nat.succ_ne_zero k)]
      exact found11 c k (Nat.lt_of_succ_lt hn) d

/-- What the body has to give back of the statistics' buffer at a point. -/
def back11 (c : Dev nD) (t : Fin cfg0.N) : sProp 𝕄 :=
  match cfg0.idle 11 (cfg0.grid.coords t) with
  | true =>
    match (cfg0.win 11).flush t with
    | false => iprop(∃ d, owns (c : Thread nD τ) (stg11 t) fullShare ((dats m 0 c).before 11 t d))
    | true => owns (c : Thread nD τ) (stg11 t) fullShare ((dats m 0 c).after 11 t)
  | false => owns (c : Thread nD τ) (stg11 t) fullShare ((dats m 0 c).after 11 t)

/-- The statistics are what it has to give back, at every point. -/
theorem back11_of (c : Dev nD) (t : Fin cfg0.N) : owns (c : Thread nD τ) (stg11 t) fullShare (statsAt m c) ⊢ back11 m c t := by
  unfold back11
  by_cases hz : t.val = 0
  · rw [live11 t hz]; dsimp only; rw [left11]
  · rw [idle11 t hz]
    cases (cfg0.win 11).flush t with
    | true => dsimp only; rw [left11]
    | false =>
      dsimp only
      obtain ⟨n, hn⟩ := t
      cases n with
      | zero => exact absurd rfl hz
      | succ n =>
        simp only [found11 m c n hn]
        iintro H; iexists (statsAt m c); iexact H

/-! ## The body at a point -/

/-- What the body is called with at a point. -/
def callPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- What the body returns. -/
def callPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ back11 m c t)

set_option maxHeartbeats 9600000 in
/-- The body at any point: the first computes everything anew, a later one adds its update over what the point before left. -/
theorem call_sound (c : Dev nD) (t : Fin cfg0.N) :
    callPre m c t ⊢ wp frame (wpE (defs₀ (F := F)) Variants.none c none) Set.univ (bodyAt0 t) (fun _ => callPost m c t) := by
  unfold callPre callPost bodyAt0
  simp only [found0, found1, found2, found3, found4, found5, found6, found7, found8, found9]
  rw [show (dats m 0 c).owesAt () t.succ = (dats m 0 c).owesAt () t.castSucc from rfl,
    left0, left1, left2, left3, left4, left5, left6, left7, left8, left9, left10]
  rw [show (dats m 0 c).Φ t.succ = inv m c (t.val + 1) t.isLt from rfl, inv_pos m c _ _ (Nat.succ_ne_zero _)]
  have hN : t.val < 16 := lt_of_lt_of_eq t.isLt (show cfg0.N = 16 from N_0)
  by_cases hz : t.val = 0
  · have ht : t = pt0 := Fin.ext hz
    rw [inv_castSucc m c t, inv_zero m c _ _ hz, start_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) _ _ _ _ _ _ _ _ _ _ _ _ _ _ _ _ _ _ _ _ _ _ _ _ _ _ _ _ ((first_iff t).mpr (by omega)) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    subst ht
    iintro ⟨H0, H1, H2, H3, H4, H5, H6, H7, H8, H9, H10, H11, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (back11_of m c pt0); iexact H11
  · rw [inv_castSucc m c t, inv_pos m c _ _ hz, outAt_later m c t hz]
    have h11 : ∀ d, (dats m 0 c).before 11 t d = statsAt m c := by
      obtain ⟨n, hn⟩ := t
      cases n with
      | zero => exact absurd rfl hz
      | succ n => exact found11 m c n hn
    simp only [found10 m c t hz, h11]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later c (grid0.coords t) _ _ _ _ _ _ _ _ _ _ _ _ _ _ _ _ _ _ _ _ _ _ (stg11 t) (hstage0_11 ((cfg0.slots t 11).cast nbuf0_11)) _ _ _ _ (fun h => hz (by have := (first_iff t).mp h; omega)) (iblk m c 0 t) (iblk m c 1 t) (iblk m c 2 t) (iblk m c 3 t) (iblk m c 4 t) (iblk m c 5 t) (iblk m c 6 t) (iblk m c 7 t) (iblk m c 8 t) (iblk m c 9 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (back11_of m c t); iexact H11

/-- The body table's row at a point is the body on that point's buffers. -/
theorem row_eq (t : Fin cfg0.N) : defs₀ (F := F) .tc cfg0.body (cfg0.bodyArgs t (cfg0.slots t)) = bodyAt0 t := by
  unfold defs₀; rw [Defs.onTc_tc]

/-- The body, run at any point, leaves what the proof data says. -/
theorem obligation (c : Dev nD) : BodyObligation (dats (F := F) m 0 c) (defs₀ (F := F)) Variants.none () Set.univ := fun t => by
  rw [bigSep_W0, bigSep_W0, row_eq]
  exact triple_restated (call_sound m c t) rfl .rfl fun _ => .rfl

/-- What the launch hands over is what holds before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the scratch is given back, its contents forgotten. -/
theorem inv_out (c : Dev nD) : (dats m 0 c).Φ (Fin.last cfg0.N) ⊢ Pipeline.ΦA spec0 c := by
  have hz : (Fin.last cfg0.N).val ≠ 0 := by rw [Fin.val_last]; have : cfg0.N = 16 := N_0; omega
  rw [show (dats m 0 c).Φ (Fin.last cfg0.N) = inv m c (Fin.last cfg0.N).val (Nat.le_of_lt_succ (Fin.last cfg0.N).isLt) from rfl, inv_pos m c _ _ hz, start_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
set_option maxHeartbeats 800000 in
/-- Every run ends, with the windows' arrays and the remaining buffers as the proof data says and every semaphore counter at zero. -/
theorem run_all : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := inv_in m) (hout := inv_out m)

/-- The frame: the arguments end unchanged and the counters at zero. -/
theorem frame_all : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

end Cert.KernelIdeal.Body

end
-- ==== Proof.Blocks.lean ====
/-
  What each window's block holds, element by element, in terms of the program's arguments.
-/
module

public import proofs.«01_k».proof.Proof.KernelIdealFrame
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block lies at each point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val / 2, 0, t.val % 2]
    ∧ win0_8.index t = ![t.val / 2, 0, t.val % 2] ∧ win0_9.index t = ![t.val / 2, t.val % 2, 0] ∧ win0_10.index t = ![0, 0] ∧ win0_11.index t = ![0, 0] :=
  (by decide +kernel : ∀ t : Fin grid0.N, _)

/-- The host's reshaped token features. -/
theorem held0 : V m c main_call0_v0 = shapeCast S256x768 (m ((c : Thread nD τ).loc main_arg0)) shapeCasts_S32x8x768_S256x768 := by
  show StableHlo.after [hostOps0].flatten _ _ = _
  simp only [List.flatten_cons, List.flatten_nil, List.append_nil, hostOps0]
  after_results
  rfl

/-- The host's reshaped layer norm's weights. -/
theorem held1 : V m c main_call0_v1 = shapeCast S1x768 (m ((c : Thread nD τ).loc main_arg1)) shapeCasts_S768_S1x768 := by
  show StableHlo.after [hostOps0].flatten _ _ = _
  simp only [List.flatten_cons, List.flatten_nil, List.append_nil, hostOps0]
  after_results
  rfl

/-- The host's reshaped layer norm's biases. -/
theorem held2 : V m c main_call0_v2 = shapeCast S1x768 (m ((c : Thread nD τ).loc main_arg2)) shapeCasts_S768_S1x768 := by
  show StableHlo.after [hostOps0].flatten _ _ = _
  simp only [List.flatten_cons, List.flatten_nil, List.append_nil, hostOps0]
  after_results
  rfl

/-- The host's reshaped router's biases. -/
theorem held3 : V m c main_call0_v3 = shapeCast S1x8 (m ((c : Thread nD τ).loc main_arg4)) shapeCasts_S8_S1x8 := by
  show StableHlo.after [hostOps0].flatten _ _ = _
  simp only [List.flatten_cons, List.flatten_nil, List.append_nil, hostOps0]
  after_results
  rfl

/-- The host's reshaped temperature. -/
theorem held4 : V m c main_call0_v4 = shapeCast S1x1 (m ((c : Thread nD τ).loc main_arg5)) shapeCasts_S_S1x1 := by
  show StableHlo.after [hostOps0].flatten _ _ = _
  simp only [List.flatten_cons, List.flatten_nil, List.append_nil, hostOps0]
  after_results
  rfl

/-- The host's reshaped first biases. -/
theorem held5 : V m c main_call0_v5 = shapeCast S8x1x3072 (m ((c : Thread nD τ).loc main_arg7)) shapeCasts_S8x3072_S8x1x3072 := by
  show StableHlo.after [hostOps0].flatten _ _ = _
  simp only [List.flatten_cons, List.flatten_nil, List.append_nil, hostOps0]
  after_results
  rfl

/-- The token features. -/
theorem blk0 (t : Fin cfg0.N) (a : Fin 32) (b : Fin 8) (k : Fin 768) (r : Fin 256) (hr : r.val = a.val * 8 + b.val) :
    iblk m c 0 t (ix2 r k) = m ((c : Thread nD τ).loc main_arg0) (ix3 a b k) := by
  have hi : ((cfg0.win 0).blk t).view.emb (ix2 r k) = ix2 r k := by blk_ext [idx t]
  show V m c main_call0_v0 (((cfg0.win 0).blk t).view.emb (ix2 r k)) = _
  rw [hi, held0]
  refine shapeCast_apply _ _ _ _ ?_
  show (S32x8x768.rowMajor (ix3 a b k)).val = (S256x768.rowMajor (ix2 r k)).val
  rw [Shape.rowMajor_val_three, Shape.rowMajor_val_two]
  show (a.val * 8 + b.val) * 768 + k.val = r.val * 768 + k.val
  rw [hr]

/-- The layer norm's weights. -/
theorem blk1 (t : Fin cfg0.N) (k : Fin 768) : iblk m c 1 t (ix2 (0 : Fin 1) k) = m ((c : Thread nD τ).loc main_arg1) (ix1 k) := by
  have hi : ((cfg0.win 1).blk t).view.emb (ix2 (0 : Fin 1) k) = ix2 (0 : Fin 1) k := by blk_ext [idx t]
  show V m c main_call0_v1 (((cfg0.win 1).blk t).view.emb (ix2 (0 : Fin 1) k)) = _
  rw [hi]
  rw [held1]
  pointwise
  blk_ext

/-- The layer norm's biases. -/
theorem blk2 (t : Fin cfg0.N) (k : Fin 768) : iblk m c 2 t (ix2 (0 : Fin 1) k) = m ((c : Thread nD τ).loc main_arg2) (ix1 k) := by
  have hi : ((cfg0.win 2).blk t).view.emb (ix2 (0 : Fin 1) k) = ix2 (0 : Fin 1) k := by blk_ext [idx t]
  show V m c main_call0_v2 (((cfg0.win 2).blk t).view.emb (ix2 (0 : Fin 1) k)) = _
  rw [hi]
  rw [held2]
  pointwise
  blk_ext

/-- The router's weights. -/
theorem blk3 (t : Fin cfg0.N) (k : Fin 768) (e : Fin 8) : iblk m c 3 t (ix2 k e) = m ((c : Thread nD τ).loc main_arg3) (ix2 k e) := by
  blk_ext! [iblk, V, idx t]

/-- The router's biases. -/
theorem blk4 (t : Fin cfg0.N) (e : Fin 8) : iblk m c 4 t (ix2 (0 : Fin 1) e) = m ((c : Thread nD τ).loc main_arg4) (ix1 e) := by
  have hi : ((cfg0.win 4).blk t).view.emb (ix2 (0 : Fin 1) e) = ix2 (0 : Fin 1) e := by blk_ext [idx t]
  show V m c main_call0_v3 (((cfg0.win 4).blk t).view.emb (ix2 (0 : Fin 1) e)) = _
  rw [hi]
  rw [held3]
  pointwise
  blk_ext

/-- The temperature. -/
theorem blk5 (t : Fin cfg0.N) : iblk m c 5 t (ix2 (0 : Fin 1) (0 : Fin 1)) = m ((c : Thread nD τ).loc main_arg5) ix0 := by
  have hi : ((cfg0.win 5).blk t).view.emb (ix2 (0 : Fin 1) (0 : Fin 1)) = ix2 (0 : Fin 1) (0 : Fin 1) := by blk_ext [idx t]
  show V m c main_call0_v4 (((cfg0.win 5).blk t).view.emb (ix2 (0 : Fin 1) (0 : Fin 1))) = _
  rw [hi]
  rw [held4]
  pointwise
  blk_ext

/-- The second biases. -/
theorem blk6 (t : Fin cfg0.N) (e : Fin 8) (d : Fin 768) : iblk m c 6 t (ix2 e d) = m ((c : Thread nD τ).loc main_arg9) (ix2 e d) := by
  blk_ext! [iblk, V, idx t]

/-- A half of an expert's first weights. -/
theorem blk7 (t : Fin cfg0.N) (k : Fin 768) (j : Fin 1536) (e : Fin 8) (n : Fin 3072) (he : e.val = t.val / 2) (hn : n.val = t.val % 2 * 1536 + j.val) :
    iblk m c 7 t (ix3 (0 : Fin 1) k j) = m ((c : Thread nD τ).loc main_arg6) (ix3 e k n) := by
  blk_ext! [iblk, V, idx t]

/-- A half of an expert's first biases. -/
theorem blk8 (t : Fin cfg0.N) (j : Fin 1536) (e : Fin 8) (n : Fin 3072) (he : e.val = t.val / 2) (hn : n.val = t.val % 2 * 1536 + j.val) :
    iblk m c 8 t (ix3 (0 : Fin 1) (0 : Fin 1) j) = m ((c : Thread nD τ).loc main_arg7) (ix2 e n) := by
  have hi : ((cfg0.win 8).blk t).view.emb (ix3 (0 : Fin 1) (0 : Fin 1) j) = ix3 e (0 : Fin 1) n := by blk_ext [idx t]
  show V m c main_call0_v5 (((cfg0.win 8).blk t).view.emb (ix3 (0 : Fin 1) (0 : Fin 1) j)) = _
  rw [hi]
  rw [held5]
  pointwise
  blk_ext

/-- A half of an expert's second weights. -/
theorem blk9 (t : Fin cfg0.N) (j : Fin 1536) (d : Fin 768) (e : Fin 8) (n : Fin 3072) (he : e.val = t.val / 2) (hn : n.val = t.val % 2 * 1536 + j.val) :
    iblk m c 9 t (ix3 (0 : Fin 1) j d) = m ((c : Thread nD τ).loc main_arg8) (ix3 e n d) := by
  blk_ext! [iblk, V, idx t]

/-- The output array is the output block after the last point. -/
theorem array10 : (dats m 0 c).arrAt 10 (cfgs 0).N = outAt m c 15 (by rw [show cfg0.N = 16 from N_0]; omega) := by
  refine (dats m 0 c).arrAt_eq_of_after_last 10 ⟨15, by rw [show cfg0.N = 16 from N_0]; omega⟩ (by decide +kernel) _ fun j => ?_
  blk_simp
  refine (congrFun (left10 m c ⟨15, by rw [show cfg0.N = 16 from N_0]; omega⟩) _).trans ?_
  blk_ext

/-- The statistics' array is the statistics' block. -/
theorem array11 : (dats m 0 c).arrAt 11 (cfgs 0).N = statsAt m c := by
  refine (dats m 0 c).arrAt_eq_of_after_last 11 ⟨15, by rw [show cfg0.N = 16 from N_0]; omega⟩ (by decide +kernel) _ fun j => ?_
  blk_simp
  refine (congrFun (left11 m c ⟨15, by rw [show cfg0.N = 16 from N_0]; omega⟩) _).trans ?_
  blk_ext

end Cert.KernelIdeal.Body

end
-- ==== Proof.Tail.lean ====
/-
  What the host leaves in the five results after the kernel: the output block reshaped to tokens, and the four statistics' entries.
-/
module

public import proofs.«01_k».proof.Proof.Blocks
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Every buffer after the kernel: its arrays overwritten. -/
def after0 : Valuation τ sig (Elt Ideal) :=
  Pipeline.withArrays (cfgs 0).spec c (V0 m c) fun w => (dats m 0 c).arrAt w (cfgs 0).N

/-- The buffers after the kernel, spelled out. -/
theorem after0_def : Pipeline.withArrays (cfgs 0).spec c (V0 m c) (fun w => (dats m 0 c).arrAt w (cfgs 0).N) = after0 m c := rfl

/-- The last grid point. -/
theorem last_lt : 15 < cfg0.N := by rw [show cfg0.N = 16 from N_0]; omega

/-- No two windows share an array. -/
theorem arrays_apart : Function.Injective (Pipeline.arrRef (cfgs 0).spec) :=
  (by decide : ∀ a b, Pipeline.arrRef spec0 a = Pipeline.arrRef spec0 b → a = b)

/-- The output array after the kernel. -/
theorem after0_out : after0 m c (Proc.devRef .tc main_call0_v6_0) = outAt m c 15 last_lt :=
  (Pipeline.withArrays_arr (cfgs 0).spec arrays_apart c (V0 m c) _ 10).trans (array10 m c)

/-- The statistics' array after the kernel. -/
theorem after0_stats : after0 m c (Proc.devRef .tc main_call0_v6_1) = statsAt m c :=
  (Pipeline.withArrays_arr (cfgs 0).spec arrays_apart c (V0 m c) _ 11).trans (array11 m c)

/-- The first result is the output block, reshaped. -/
theorem tail0 : Pipeline.afterTail₀ cfgs (dats m) 0 (V0 m) [hostOps1] c main_v0_0
    = shapeCast S32x8x768 (outAt m c 15 last_lt) shapeCasts_S256x768_S32x8x768 := by
  unfold Pipeline.afterTail₀
  rw [after0_def]
  rw [← after0_out m c]
  simp only [List.flatten_cons, List.flatten_nil, List.append_nil, hostOps1]
  after_results
  rfl

/-- Result 2 is entry 0 of the statistics. -/
theorem tail1 : Pipeline.afterTail₀ cfgs (dats m) 0 (V0 m) [hostOps1] c main_v0_1
    = shapeCast S_ (extractStridedSlice S1x1 ![0, 0] (statsAt m c) slices_S1x8_S1x1_0_0) shapeCasts_S1x1_S_ := by
  unfold Pipeline.afterTail₀
  rw [after0_def]
  rw [← after0_stats m c]
  simp only [List.flatten_cons, List.flatten_nil, List.append_nil, hostOps1]
  after_results
  rfl

/-- Result 3 is entry 1 of the statistics. -/
theorem tail2 : Pipeline.afterTail₀ cfgs (dats m) 0 (V0 m) [hostOps1] c main_v0_2
    = shapeCast S_ (extractStridedSlice S1x1 ![0, 1] (statsAt m c) slices_S1x8_S1x1_0_1) shapeCasts_S1x1_S_ := by
  unfold Pipeline.afterTail₀
  rw [after0_def]
  rw [← after0_stats m c]
  simp only [List.flatten_cons, List.flatten_nil, List.append_nil, hostOps1]
  after_results
  rfl

/-- Result 4 is entry 2 of the statistics. -/
theorem tail3 : Pipeline.afterTail₀ cfgs (dats m) 0 (V0 m) [hostOps1] c main_v0_3
    = shapeCast S_ (extractStridedSlice S1x1 ![0, 2] (statsAt m c) slices_S1x8_S1x1_0_2) shapeCasts_S1x1_S_ := by
  unfold Pipeline.afterTail₀
  rw [after0_def]
  rw [← after0_stats m c]
  simp only [List.flatten_cons, List.flatten_nil, List.append_nil, hostOps1]
  after_results
  rfl

/-- Result 5 is entry 3 of the statistics. -/
theorem tail4 : Pipeline.afterTail₀ cfgs (dats m) 0 (V0 m) [hostOps1] c main_v0_4
    = shapeCast S_ (extractStridedSlice S1x1 ![0, 3] (statsAt m c) slices_S1x8_S1x1_0_3) shapeCasts_S1x1_S_ := by
  unfold Pipeline.afterTail₀
  rw [after0_def]
  rw [← after0_stats m c]
  simp only [List.flatten_cons, List.flatten_nil, List.append_nil, hostOps1]
  after_results
  rfl

/-- A statistic, out of its entry. -/
theorem entry_apply (s : Vec Ideal S1x8 .f32) (k : ℕ) (hk : k < 8) (h : S1x8.Slices ![0, k] S1x1) (j : S_.Idx) :
    shapeCast S_ (extractStridedSlice S1x1 ![0, k] s h) shapeCasts_S1x1_S_ j = s (ix2 (0 : Fin 1) (⟨k, hk⟩ : Fin 8)) := by
  rw [shapeCast_apply _ _ _ (ix2 (0 : Fin 1) (0 : Fin 1)) (by rw [Shape.rowMajor_val_two]; show 0 = (S_.rowMajor j).val; have := (S_.rowMajor j).isLt; exact (Nat.lt_one_iff.mp this).symm)]
  refine congrArg s (funext fun a => ?_)
  fin_cases a
  · rfl
  · rfl

/-- A token's output, out of its row. -/
theorem row_apply (o : Vec Ideal S256x768 .f32) (a : Fin 32) (b : Fin 8) (k : Fin 768) (r : Fin 256) (hr : r.val = a.val * 8 + b.val) :
    shapeCast S32x8x768 o shapeCasts_S256x768_S32x8x768 (ix3 a b k) = o (ix2 r k) := by
  refine shapeCast_apply _ _ _ _ ?_
  rw [Shape.rowMajor_val_three, Shape.rowMajor_val_two]
  show r.val * 768 + k.val = (a.val * 8 + b.val) * 768 + k.val
  rw [hr]

end Cert.KernelIdeal.Body

end
-- ==== Proof.Plain.lean ====
/-
  The mathematics that the kernel and its reference share, over the extended reals and with no program in sight:
  one token's layer norm and router scores, the softmax statistics of all tokens' scores, the two chosen experts and
  their gates as the kernel finds them, and one expert's hidden unit.
-/
module

public import Idealize.ShloMosaic.PureOps.Ideal.Laws
public import Idealize.ShloMosaic.Lib.IdealHost

@[expose] public section

noncomputable section

namespace Cert.Plain

open Idealize.ShloMosaic

/-- The number of features, 768, as both programs write it. -/
abbrev width : EReal := Ideal.ofBits .f32 0x44400000#32
/-- The number of tokens, 256, as both programs write it. -/
abbrev tokens : EReal := Ideal.ofBits .f32 0x43800000#32
/-- The number of experts, 8, as both programs write it. -/
abbrev experts : EReal := Ideal.ofBits .f32 0x41000000#32
/-- One eighth, the importance every expert should have. -/
abbrev eighth : EReal := Ideal.ofBits .f32 0x3E000000#32
/-- The weight 0.001 of the auxiliary losses. -/
abbrev small : EReal := Ideal.ofBits .f32 0x3A83126F#32
/-- The floor 1e-9 under a probability whose logarithm is taken. -/
abbrev floor9 : EReal := Ideal.ofBits .f32 0x3089705F#32
/-- The variance's guard 1e-5. -/
abbrev guard5 : EReal := Ideal.ofBits .f32 0x3727C5AC#32
/-- The least temperature, one quarter. -/
abbrev quarter : EReal := Ideal.ofBits .f32 0x3E800000#32
/-- Minus infinity, as both programs write it. -/
abbrev lowest : EReal := Ideal.ofBits .f32 0xFF800000#32
/-- One half. -/
abbrev half : EReal := Ideal.ofBits .f32 0x3F000000#32
/-- The reciprocal of the square root of two, the same pattern in both programs. -/
abbrev rootHalf : EReal := Ideal.ofBits .f32 0x3F3504F3#32

/-- The mean of a token's features. -/
def mean (x : Fin 768 → EReal) : EReal := Ideal.div (∑ k, x k) width

/-- The variance of a token's features. -/
def spread (x : Fin 768 → EReal) : EReal := Ideal.div (∑ k, (x k - mean x) * (x k - mean x)) width

/-- The layer norm with a reciprocal square root. -/
def normed (x w b : Fin 768 → EReal) (k : Fin 768) : EReal := (x k - mean x) * Ideal.rsqrt (spread x + guard5) * w k + b k

/-- The layer norm with a division by the square root. -/
def normedDiv (x w b : Fin 768 → EReal) (k : Fin 768) : EReal :=
  Ideal.div (x k - mean x) (Ideal.sqrt (spread x + guard5)) * w k + b k

/-- One expert's score of a normed token, over the clipped temperature. -/
def score (y : Fin 768 → EReal) (W : Fin 768 → EReal) (b t : EReal) : EReal := Ideal.div (∑ k, y k * W k + b) (max t quarter)

/-- The greatest score. -/
def peak (L : Fin 8 → EReal) : EReal := Finset.univ.fold max lowest L

/-- A score's exponential, taken from the greatest. -/
def expo (L : Fin 8 → EReal) (e : Fin 8) : EReal := Ideal.exp (L e - peak L)

/-- The sum of the exponentials. -/
def mass (L : Fin 8 → EReal) : EReal := ∑ e, expo L e

/-- The softmax of the scores. -/
def prob (L : Fin 8 → EReal) (e : Fin 8) : EReal := Ideal.div (expo L e) (mass L)

/-- The load-balance loss. -/
def balance (L : Fin 256 → Fin 8 → EReal) : EReal :=
  Ideal.div (∑ e, (Ideal.div (∑ r, prob (L r) e) tokens - eighth) * (Ideal.div (∑ r, prob (L r) e) tokens - eighth)) experts

/-- The router's z loss. -/
def zloss (L : Fin 256 → Fin 8 → EReal) : EReal :=
  Ideal.div (∑ r, (peak (L r) + Ideal.log (mass (L r))) * (peak (L r) + Ideal.log (mass (L r)))) tokens

/-- The mean of the sums of probability times log-probability. -/
def negEntropy (L : Fin 256 → Fin 8 → EReal) : EReal :=
  Ideal.div (∑ r, ∑ e, prob (L r) e * Ideal.log (max (prob (L r) e) floor9)) tokens

/-- The total auxiliary loss. -/
def total (L : Fin 256 → Fin 8 → EReal) : EReal := balance L + small * zloss L - small * (0 - negEntropy L)

/-- Whether a word is an expert's number. -/
def here (e : Fin 8) (w : BitVec 32) : BitVec 1 := IntOp.cmpi .eq (BitVec.ofNat 32 e.val) w

/-- The lowest expert number whose score is `p`, as the kernel finds it. -/
def firstAt (L : Fin 8 → EReal) (p : EReal) : BitVec 32 :=
  Finset.univ.fold IntOp.minsi 2147483647#32 (fun e => if L e = p then BitVec.ofNat 32 e.val else 8#32)

/-- The scores with the best expert's struck out. -/
def masked (L : Fin 8 → EReal) (e : Fin 8) : EReal := Scalar.select (here e (firstAt L (peak L))) lowest (L e)

/-- The second-best score's exponential, taken from the best. -/
def edge (L : Fin 8 → EReal) : EReal := Ideal.exp (peak (masked L) - peak L)

/-- An expert's gate: nothing unless it is the best or the second best. -/
def gate (L : Fin 8 → EReal) (e : Fin 8) : EReal :=
  Scalar.select (here e (firstAt L (peak L))) (Ideal.div 1 (1 + edge L)) 0
    + Scalar.select (here e (firstAt (masked L) (peak (masked L)))) (Ideal.div (edge L) (1 + edge L)) 0

/-- A hidden unit before its activation. -/
def unit (x : Fin 768 → EReal) (W : Fin 768 → EReal) (b : EReal) : EReal := ∑ k, x k * W k + b

/-- The exact gelu by the error function. -/
def gelu (h : EReal) : EReal := half * h * (1 + Ideal.erf (h * rootHalf))

end Cert.Plain

end
-- ==== Proof.RefRead.lean ====
/-
  The reference's composed terms cut in stages, and each stage read at an index as a plain function of
  Proof/Plain.lean: its scores, its softmax statistics, its hidden units and its experts' outputs.
-/
module

public import proofs.«01_k».proof.Proof.Gen.ReferenceIdeal.Run
public import proofs.«01_k».proof.Proof.Plain
public import Idealize.ShloMosaic.Lib.Pointwise

@[expose] public section

set_option maxRecDepth 16384

noncomputable section

namespace Cert.ReferenceIdeal.Value

open Cert.ReferenceIdeal Cert.ReferenceIdeal.Gen Cert.Plain
open Idealize.ShloMosaic Idealize.ShloMosaic.TcCoe Idealize.SL.Sem Idealize.ShloMosaic.StableHlo

/-- The features' means. -/
def rMean (x : FVec Ideal S32x8x768 .f32) : FVec Ideal S32x8x1 .f32 :=
  Host.divf (broadcastInDim S32x8x1 ![0, 1] bcast_S32x8_S32x8x1_0_1 (Host.reduceAdd x (constant S_ .f32 0x00000000#32) reducesTo_S32x8x768_S32x8_d2 h_S_))
    (broadcastInDim S32x8x1 ![] bcast_S_S32x8x1 (constant S_ .f32 0x44400000#32))

/-- The features less their means. -/
def rCentred (x : FVec Ideal S32x8x768 .f32) : FVec Ideal S32x8x768 .f32 :=
  subf x (broadcastInDim S32x8x768 ![0, 1, 2] bcast_S32x8x1_S32x8x768_0_1_2 (rMean x))

/-- The features' variances. -/
def rSpread (x : FVec Ideal S32x8x768 .f32) : FVec Ideal S32x8x1 .f32 :=
  Host.divf (broadcastInDim S32x8x1 ![0, 1] bcast_S32x8_S32x8x1_0_1 (Host.reduceAdd (mulf (rCentred x) (rCentred x)) (constant S_ .f32 0x00000000#32) reducesTo_S32x8x768_S32x8_d2 h_S_))
    (broadcastInDim S32x8x1 ![] bcast_S_S32x8x1 (constant S_ .f32 0x44400000#32))

/-- The normed features. -/
def rNormed (x : FVec Ideal S32x8x768 .f32) (w b : FVec Ideal S768 .f32) : FVec Ideal S32x8x768 .f32 :=
  addf (mulf (Host.divf (rCentred x) (broadcastInDim S32x8x768 ![0, 1, 2] bcast_S32x8x1_S32x8x768_0_1_2
      (Host.sqrt (addf (rSpread x) (broadcastInDim S32x8x1 ![] bcast_S_S32x8x1 (constant S_ .f32 0x3727C5AC#32))))))
    (broadcastInDim S32x8x768 ![0, 1, 2] bcast_S1x1x768_S32x8x768_0_1_2 (broadcastInDim S1x1x768 ![2] bcast_S768_S1x1x768_2 w)))
    (broadcastInDim S32x8x768 ![0, 1, 2] bcast_S1x1x768_S32x8x768_0_1_2 (broadcastInDim S1x1x768 ![2] bcast_S768_S1x1x768_2 b))

/-- The router's scores. -/
def rScores (x : FVec Ideal S32x8x768 .f32) (w b : FVec Ideal S768 .f32) (Wr : FVec Ideal S768x8 .f32) (br : FVec Ideal S8 .f32) (t : FVec Ideal S_ .f32) :
    FVec Ideal S32x8x8 .f32 :=
  Host.divf (addf (Host.dotGeneral (φ₁ := .f32) (φ₂ := .f32) dot_S32x8x768_S768x8_S32x8x8_2_0_01_1_n_n none (rNormed x w b) Wr)
      (broadcastInDim S32x8x8 ![0, 1, 2] bcast_S1x1x8_S32x8x8_0_1_2 (broadcastInDim S1x1x8 ![2] bcast_S8_S1x1x8_2 br)))
    (broadcastInDim S32x8x8 ![] bcast_S_S32x8x8 (maximumf (id (constant S_ .f32 0x3E800000#32)) t))

/-- The greatest scores. -/
def rPeak (L : FVec Ideal S32x8x8 .f32) : FVec Ideal S32x8 .f32 :=
  Host.reduce FloatOps.maximumf L (constant S_ .f32 0xFF800000#32) reducesTo_S32x8x8_S32x8_d2 h_S_

/-- The scores' exponentials, as the softmax takes them. -/
def rExpo (L : FVec Ideal S32x8x8 .f32) : FVec Ideal S32x8x8 .f32 :=
  Host.exp (subf L (broadcastInDim S32x8x8 ![0, 1, 2] bcast_S32x8x1_S32x8x8_0_1_2 (broadcastInDim S32x8x1 ![0, 1] bcast_S32x8_S32x8x1_0_1
    (maximumf (broadcastInDim S32x8 ![] bcast_S_S32x8 (constant S_ .f32 0xFF800000#32)) (rPeak L)))))

/-- The softmax. -/
def rProb (L : FVec Ideal S32x8x8 .f32) : FVec Ideal S32x8x8 .f32 :=
  Host.divf (rExpo L) (broadcastInDim S32x8x8 ![0, 1, 2] bcast_S32x8x1_S32x8x8_0_1_2 (broadcastInDim S32x8x1 ![0, 1] bcast_S32x8_S32x8x1_0_1
    (Host.reduceAdd (rExpo L) (constant S_ .f32 0x00000000#32) reducesTo_S32x8x8_S32x8_d2 h_S_)))

/-- The importances less one eighth. -/
def rOff (L : FVec Ideal S32x8x8 .f32) : FVec Ideal S8 .f32 :=
  subf (Host.divf (Host.reduceAdd (rProb L) (constant S_ .f32 0x00000000#32) reducesTo_S32x8x8_S8_d0_1 h_S_) (broadcastInDim S8 ![] bcast_S_S8 (constant S_ .f32 0x43800000#32)))
    (broadcastInDim S8 ![] bcast_S_S8 (constant S_ .f32 0x3E000000#32))

/-- The load-balance loss. -/
def rBalance (L : FVec Ideal S32x8x8 .f32) : FVec Ideal S_ .f32 :=
  Host.divf (Host.reduceAdd (mulf (rOff L) (rOff L)) (constant S_ .f32 0x00000000#32) reducesTo_S8_S_d0 h_S_) (constant S_ .f32 0x41000000#32)

/-- The logarithms of the sums of the exponentials. -/
def rLse (L : FVec Ideal S32x8x8 .f32) : FVec Ideal S32x8 .f32 :=
  addf (Host.log (Host.reduceAdd (Host.exp (subf L (broadcastInDim S32x8x8 ![0, 1, 2] bcast_S32x8x1_S32x8x8_0_1_2 (broadcastInDim S32x8x1 ![0, 1] bcast_S32x8_S32x8x1_0_1 (rPeak L)))))
      (constant S_ .f32 0x00000000#32) reducesTo_S32x8x8_S32x8_d2 h_S_))
    (shapeCast S32x8 (broadcastInDim S32x8x1 ![0, 1] bcast_S32x8_S32x8x1_0_1 (rPeak L)) shapeCasts_S32x8x1_S32x8)

/-- The z loss. -/
def rZloss (L : FVec Ideal S32x8x8 .f32) : FVec Ideal S_ .f32 :=
  Host.divf (Host.reduceAdd (mulf (rLse L) (rLse L)) (constant S_ .f32 0x00000000#32) reducesTo_S32x8_S_d0_1 h_S_) (constant S_ .f32 0x43800000#32)

/-- The entropy. -/
def rEntropy (L : FVec Ideal S32x8x8 .f32) : FVec Ideal S_ .f32 :=
  Host.negf (Host.divf (Host.reduceAdd (Host.reduceAdd (mulf (rProb L) (Host.log (maximumf (broadcastInDim S32x8x8 ![] bcast_S_S32x8x8 (id (constant S_ .f32 0x3089705F#32))) (rProb L))))
      (constant S_ .f32 0x00000000#32) reducesTo_S32x8x8_S32x8_d2 h_S_) (constant S_ .f32 0x00000000#32) reducesTo_S32x8_S_d0_1 h_S_) (constant S_ .f32 0x43800000#32))

/-- The total auxiliary loss. -/
def rTotal (L : FVec Ideal S32x8x8 .f32) : FVec Ideal S_ .f32 :=
  subf (addf (rBalance L) (mulf (constant S_ .f32 0x3A83126F#32) (rZloss L))) (mulf (constant S_ .f32 0x3A83126F#32) (rEntropy L))

/-- The hidden units before their activation. -/
def rUnit (x : FVec Ideal S32x8x768 .f32) (W1 : FVec Ideal S8x768x3072 .f32) (b1 : FVec Ideal S8x3072 .f32) : FVec Ideal S32x8x8x3072 .f32 :=
  addf (Host.dotGeneral (φ₁ := .f32) (φ₂ := .f32) dot_S32x8x768_S8x768x3072_S32x8x8x3072_2_1_01_02_n_n none x W1)
    (broadcastInDim S32x8x8x3072 ![0, 1, 2, 3] bcast_S1x1x8x3072_S32x8x8x3072_0_1_2_3 (broadcastInDim S1x1x8x3072 ![2, 3] bcast_S8x3072_S1x1x8x3072_2_3 b1))

/-- The activated hidden units. -/
def rGelu (h : FVec Ideal S32x8x8x3072 .f32) : FVec Ideal S32x8x8x3072 .f32 :=
  mulf (mulf (broadcastInDim S32x8x8x3072 ![] bcast_S_S32x8x8x3072 (constant S_ .f32 0x3F000000#32)) h)
    (Host.erfc (mulf (Host.negf h) (broadcastInDim S32x8x8x3072 ![] bcast_S_S32x8x8x3072 (constant S_ .f32 0x3F3504F3#32))))

/-- Every expert's output. -/
def rAll (a : FVec Ideal S32x8x8x3072 .f32) (W2 : FVec Ideal S8x3072x768 .f32) (b2 : FVec Ideal S8x768 .f32) : FVec Ideal S32x8x8x768 .f32 :=
  addf (transpose S32x8x8x768 [2, 3, 0, 1] (Host.dotGeneral (φ₁ := .f32) (φ₂ := .f32) dot_S8x3072x768_S32x8x8x3072_S8x768x32x8_1_3_2_01_0_2 none W2 a) transposes_S8x768x32x8_S32x8x8x768_2_3_0_1)
    (broadcastInDim S32x8x8x768 ![0, 1, 2, 3] bcast_S1x1x8x768_S32x8x8x768_0_1_2_3 (broadcastInDim S1x1x8x768 ![2, 3] bcast_S8x768_S1x1x8x768_2_3 b2))

/-- The two greatest scores. -/
def rBest (L : FVec Ideal S32x8x8 .f32) : FVec Ideal S32x8x2 .f32 :=
  (Host.topK S32x8x2 2 (FloatOps.cmpfTotal (F := Ideal) (φ := .f32) .gt) L sliceFits_S32x8x8_S32x8x2).1

/-- Their experts' numbers. -/
def rWho (L : FVec Ideal S32x8x8 .f32) : IVec S32x8x2 32 :=
  (Host.topK S32x8x2 2 (FloatOps.cmpfTotal (F := Ideal) (φ := .f32) .gt) L sliceFits_S32x8x8_S32x8x2).2

/-- The two best scores' exponentials. -/
def rPair (v : FVec Ideal S32x8x2 .f32) : FVec Ideal S32x8x2 .f32 :=
  Host.exp (subf v (broadcastInDim S32x8x2 ![0, 1, 2] bcast_S32x8x1_S32x8x2_0_1_2 (broadcastInDim S32x8x1 ![0, 1] bcast_S32x8_S32x8x1_0_1
    (maximumf (broadcastInDim S32x8 ![] bcast_S_S32x8 (constant S_ .f32 0xFF800000#32)) (Host.reduce FloatOps.maximumf v (constant S_ .f32 0xFF800000#32) reducesTo_S32x8x2_S32x8_d2 h_S_)))))

/-- The two gates. -/
def rGates (v : FVec Ideal S32x8x2 .f32) : FVec Ideal S32x8x2 .f32 :=
  Host.divf (rPair v) (broadcastInDim S32x8x2 ![0, 1, 2] bcast_S32x8x1_S32x8x2_0_1_2 (broadcastInDim S32x8x1 ![0, 1] bcast_S32x8_S32x8x1_0_1
    (Host.reduceAdd (rPair v) (constant S_ .f32 0x00000000#32) reducesTo_S32x8x2_S32x8_d2 h_S_)))

/-- The experts' numbers, a negative one counted from the end. -/
def rIdx (i : IVec S32x8x2 32) : IVec S32x8x2x1 32 :=
  select (cmpi .slt (broadcastInDim S32x8x2x1 ![0, 1, 2] bcast_S32x8x2_S32x8x2x1_0_1_2 i) (broadcastInDim S32x8x2x1 ![] bcast_S_S32x8x2x1 (constantI S_ 32 0#32)))
    (addi (broadcastInDim S32x8x2x1 ![0, 1, 2] bcast_S32x8x2_S32x8x2x1_0_1_2 i) (broadcastInDim S32x8x2x1 ![] bcast_S_S32x8x2x1 (constantI S_ 32 8#32)))
    (broadcastInDim S32x8x2x1 ![0, 1, 2] bcast_S32x8x2_S32x8x2x1_0_1_2 i)

/-- Whether each number is an expert's. -/
def rValid (i : IVec S32x8x2x1 32) : IVec S32x8x2 1 :=
  Host.reduce IntOp.andi (andi (cmpi .sge i (broadcastInDim S32x8x2x1 ![] bcast_S_S32x8x2x1 (constantI S_ 32 0#32)))
      (cmpi .sle i (broadcastInDim S32x8x2x1 ![0, 1, 2, 3] bcast_S1x1x1x1_S32x8x2x1_0_1_2_3 (broadcastInDim S1x1x1x1 ![3] bcast_S1_S1x1x1x1_3 (constantI S1 32 7#32)))))
    (constantI S_ 1 1#1) reducesTo_S32x8x2x1_S32x8x2_d3 h_S_

/-- The two chosen experts' outputs. -/
def rChosen (y : FVec Ideal S32x8x8x768 .f32) (i : IVec S32x8x2x1 32) : FVec Ideal S32x8x2x768 .f32 :=
  select (broadcastInDim S32x8x2x768 ![0, 1, 2] bcast_S32x8x2_S32x8x2x768_0_1_2 (rValid i))
    (Host.gather gather_S32x8x8x768_S32x8x2x1_S32x8x2x768_3_2_01_01_2_3_111768 y i)
    (broadcastInDim S32x8x2x768 ![] bcast_S_S32x8x2x768 (constant S_ .f32 0x7FC00000#32))

/-- The layer's output. -/
def rOut (L : FVec Ideal S32x8x8 .f32) (y : FVec Ideal S32x8x8x768 .f32) : FVec Ideal S32x8x768 .f32 :=
  Host.reduceAdd (mulf (broadcastInDim S32x8x2x768 ![0, 1, 2, 3] bcast_S32x8x2x1_S32x8x2x768_0_1_2_3 (broadcastInDim S32x8x2x1 ![0, 1, 2] bcast_S32x8x2_S32x8x2x1_0_1_2 (rGates (rBest L))))
      (rChosen y (rIdx (rWho L))))
    (constant S_ .f32 0x00000000#32) reducesTo_S32x8x2x768_S32x8x768_d2 h_S_

section Stages

variable (m : (ℓ : Loc nD τ sig) → Buf (Elt Ideal) ℓ) (c : Dev nD)

/-- The reference's scores of its arguments. -/
abbrev scoresOf : FVec Ideal S32x8x8 .f32 :=
  rScores (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The reference's expert outputs of its arguments. -/
abbrev allOf : FVec Ideal S32x8x8x768 .f32 :=
  rAll (rGelu (rUnit (m ((c.tc : Thread nD τ).loc main_arg0)) (m ((c.tc : Thread nD τ).loc main_arg6)) (m ((c.tc : Thread nD τ).loc main_arg7))))
    (m ((c.tc : Thread nD τ).loc main_arg8)) (m ((c.tc : Thread nD τ).loc main_arg9))

/-- The first result in stages. -/
theorem res_63 : res_main_v63 m c = rOut (scoresOf m c) (allOf m c) := rfl
/-- The second result in stages. -/
theorem res_82 : res_main_v82 m c = rBalance (scoresOf m c) := rfl
/-- The third result in stages. -/
theorem res_94 : res_main_v94 m c = rZloss (scoresOf m c) := rfl
/-- The fourth result in stages. -/
theorem res_101 : res_main_v101 m c = rEntropy (scoresOf m c) := rfl
/-- The fifth result in stages. -/
theorem res_105 : res_main_v105 m c = rTotal (scoresOf m c) := rfl

end Stages

end Cert.ReferenceIdeal.Value

end
-- ==== Proof.RefPoint.lean ====
/-
  The reference's stages read at an index: its scores, statistics and experts' outputs are plain functions of a
  token's row, the tokens numbered as the kernel numbers them.
-/
module

public import proofs.«01_k».proof.Proof.RefRead

@[expose] public section

set_option maxRecDepth 16384

noncomputable section

namespace Cert.ReferenceIdeal.Value

open Cert.ReferenceIdeal Cert.ReferenceIdeal.Gen Cert.Plain
open Idealize.ShloMosaic Idealize.ShloMosaic.TcCoe Idealize.SL.Sem Idealize.ShloMosaic.StableHlo

/-- The number of the token at batch place `a` and sequence place `b`. -/
def tok (a : Fin 32) (b : Fin 8) : Fin 256 := ⟨a.val * 8 + b.val, by have := a.isLt; have := b.isLt; omega⟩

/-- A sum over the tokens, batch place by batch place. -/
theorem sum_tok {M : Type*} [AddCommMonoid M] (f : Fin 256 → M) : ∑ r, f r = ∑ a : Fin 32, ∑ b : Fin 8, f (tok a b) :=
  Fin.sum_univ_tiles 32 8 rfl f

/-- The greatest of the scores is at least minus infinity. -/
theorem lowest_peak (L : Fin 8 → EReal) : max lowest (peak L) = peak L :=
  max_eq_right (Finset.le_fold_max _ |>.mpr (Or.inl le_rfl))

/-- A sum over the first two axes, at an index of the third. -/
theorem sum_places (h : S32x8x8.ReducesTo [0, 1] S8) (v : S32x8x8.Idx → EReal) (z : EReal) (e : Fin 8) :
    Ideal.hostReduceAdd h v z (ix1 e) = z + ∑ a : Fin 32, ∑ b : Fin 8, v (ix3 a b e) := by
  have hf : ∀ i : S32x8x8.Idx, h.drop i = ix1 e ↔ ∃ k : Fin 32 × Fin 8, (ix3 k.1 k.2 e : S32x8x8.Idx) = i := by
    intro i
    constructor
    · intro g
      refine ⟨(i 0, i 1), ?_⟩
      funext a; apply Fin.ext
      match a with
      | ⟨0, _⟩ => rfl
      | ⟨1, _⟩ => rfl
      | ⟨2, _⟩ => exact (congrArg Fin.val (congrFun g ⟨0, by decide⟩)).symm
    · rintro ⟨k, rfl⟩
      funext b; apply Fin.ext
      match b with
      | ⟨0, _⟩ => rfl
  refine congrArg (z + ·) ((Finset.sum_filter_eq_sum_of_fiber _ (fun k : Fin 32 × Fin 8 => (ix3 k.1 k.2 e : S32x8x8.Idx))
    (fun _ _ g => Prod.ext (congrFun g 0) (congrFun g 1)) hf v).trans ?_)
  simp only [Fintype.sum_prod_type]

/-- The scores at an index. -/
theorem rScores_apply (x : FVec Ideal S32x8x768 .f32) (w b : FVec Ideal S768 .f32) (Wr : FVec Ideal S768x8 .f32) (br : FVec Ideal S8 .f32)
    (t : FVec Ideal S_ .f32) (p : Fin 32) (q e : Fin 8) :
    rScores x w b Wr br t (ix3 p q e)
      = score (normedDiv (fun k => x (ix3 p q k)) (fun k => w (ix1 k)) (fun k => b (ix1 k))) (fun k => Wr (ix2 k e)) (br (ix1 e)) (t ix0) := by
  pointwise [id_eq, rScores, rNormed, rSpread, rCentred, rMean, score, normedDiv, spread, mean]
  rw [max_comm]

/-- The greatest score at an index. -/
theorem rPeak_apply (L : FVec Ideal S32x8x8 .f32) (p : Fin 32) (q : Fin 8) : rPeak L (ix2 p q) = peak (fun e => L (ix3 p q e)) := by
  pointwise [rPeak, peak]

/-- The softmax at an index. -/
theorem rProb_apply (L : FVec Ideal S32x8x8 .f32) (p : Fin 32) (q e : Fin 8) : rProb L (ix3 p q e) = prob (fun e => L (ix3 p q e)) e := by
  pointwise [rProb, rExpo, rPeak_apply, prob, expo, mass]
  simp only [lowest_peak]

/-- The log-sum-exp at an index. -/
theorem rLse_apply (L : FVec Ideal S32x8x8 .f32) (p : Fin 32) (q : Fin 8) :
    rLse L (ix2 p q) = peak (fun e => L (ix3 p q e)) + Ideal.log (mass (fun e => L (ix3 p q e))) := by
  pointwise [rLse, rPeak_apply, expo, mass]
  rw [add_comm]

section Stats

variable (L : FVec Ideal S32x8x8 .f32) (M : Fin 256 → Fin 8 → EReal) (h : ∀ p q e, L (ix3 p q e) = M (tok p q) e)
include h

/-- The load-balance loss is the plain one. -/
theorem rBalance_eq (j : S_.Idx) : rBalance L j = balance M := by
  have hM : ∀ p q, (fun e => L (ix3 p q e)) = M (tok p q) := fun p q => funext fun e => h p q e
  pointwise [rBalance, rOff, sum_places, rProb_apply, balance]
  simp only [sum_tok, hM]

/-- The z loss is the plain one. -/
theorem rZloss_eq (j : S_.Idx) : rZloss L j = zloss M := by
  have hM : ∀ p q, (fun e => L (ix3 p q e)) = M (tok p q) := fun p q => funext fun e => h p q e
  pointwise [rZloss, rLse_apply, zloss]
  simp only [sum_tok, hM]

/-- The entropy is the plain one. -/
theorem rEntropy_eq (j : S_.Idx) : rEntropy L j = 0 - negEntropy M := by
  have hM : ∀ p q, (fun e => L (ix3 p q e)) = M (tok p q) := fun p q => funext fun e => h p q e
  pointwise [id_eq, rEntropy, rProb_apply, negEntropy]
  simp only [sum_tok, hM, max_comm floor9]
  rw [zero_sub]

/-- The total auxiliary loss is the plain one. -/
theorem rTotal_eq (j : S_.Idx) : rTotal L j = total M := by
  pointwise [rTotal, total]
  rw [rBalance_eq L M h, rZloss_eq L M h, rEntropy_eq L M h]

end Stats

/-- A hidden unit at an index. -/
theorem rUnit_apply (x : FVec Ideal S32x8x768 .f32) (W1 : FVec Ideal S8x768x3072 .f32) (b1 : FVec Ideal S8x3072 .f32) (p : Fin 32) (q e : Fin 8)
    (j : Fin 3072) : rUnit x W1 b1 (ix4 p q e j) = unit (fun k => x (ix3 p q k)) (fun k => W1 (ix3 e k j)) (b1 (ix2 e j)) := by
  pointwise [rUnit, unit]

/-- An activated hidden unit at an index: one minus the error function of the negative is one plus it. -/
theorem rGelu_apply (h : FVec Ideal S32x8x8x3072 .f32) (p : Fin 32) (q e : Fin 8) (j : Fin 3072) :
    rGelu h (ix4 p q e j) = gelu (h (ix4 p q e j)) := by
  pointwise [rGelu, gelu]
  rw [neg_mul, Ideal.erfc_neg]

/-- An expert's output at an index. -/
theorem rAll_apply (a : FVec Ideal S32x8x8x3072 .f32) (W2 : FVec Ideal S8x3072x768 .f32) (b2 : FVec Ideal S8x768 .f32) (p : Fin 32) (q e : Fin 8)
    (d : Fin 768) : rAll a W2 b2 (ix4 p q e d) = (∑ j, a (ix4 p q e j) * W2 (ix3 e j d)) + b2 (ix2 e d) := by
  pointwise [rAll]
  simp only [mul_comm]

/-- The output at an index. -/
theorem rOut_apply (L : FVec Ideal S32x8x8 .f32) (y : FVec Ideal S32x8x8x768 .f32) (p : Fin 32) (q : Fin 8) (d : Fin 768) :
    rOut L y (ix3 p q d) = ∑ k : Fin 2, rGates (rBest L) (ix3 p q k) * rChosen y (rIdx (rWho L)) (ix4 p q k d) := by
  pointwise [rOut]

end Cert.ReferenceIdeal.Value

end
-- ==== Proof.PlainNorm.lean ====
/-
  Finite router inputs give finite scores, and the two ways of writing the layer norm agree on finite features.
-/
module

public import proofs.«01_k».proof.Proof.Plain

@[expose] public section

noncomputable section

namespace Cert.Plain

open Idealize.ShloMosaic

/-- An extended real that is a real number. -/
def Fine (x : EReal) : Prop := ∃ r : ℝ, x = (r : EReal)

/-- A sum of two reals is real. -/
theorem Fine.add {x y : EReal} (hx : Fine x) (hy : Fine y) : Fine (x + y) := by
  obtain ⟨a, rfl⟩ := hx; obtain ⟨b, rfl⟩ := hy; exact ⟨a + b, by push_cast; rfl⟩

/-- A difference of two reals is real. -/
theorem Fine.sub {x y : EReal} (hx : Fine x) (hy : Fine y) : Fine (x - y) := by
  obtain ⟨a, rfl⟩ := hx; obtain ⟨b, rfl⟩ := hy; exact ⟨a - b, by push_cast; rfl⟩

/-- A product of two reals is real. -/
theorem Fine.mul {x y : EReal} (hx : Fine x) (hy : Fine y) : Fine (x * y) := by
  obtain ⟨a, rfl⟩ := hx; obtain ⟨b, rfl⟩ := hy; exact ⟨a * b, by push_cast; rfl⟩

/-- A finite sum of reals is real. -/
theorem Fine.sum {ι : Type} (s : Finset ι) {f : ι → EReal} (h : ∀ i, Fine (f i)) : Fine (∑ i ∈ s, f i) := by
  classical
  induction s using Finset.induction_on with
  | empty => exact ⟨0, by simp⟩
  | insert a s ha ih => rw [Finset.sum_insert ha]; exact (h a).add ih

/-- A real divided by a real other than nought is real. -/
theorem Fine.div {x y : EReal} (hx : Fine x) (hy : Fine y) (h : y ≠ 0) : Fine (Ideal.div x y) := by
  obtain ⟨a, rfl⟩ := hx; obtain ⟨b, rfl⟩ := hy
  unfold Ideal.div
  rw [if_neg h]
  exact ⟨a * b⁻¹, by rw [EReal.coe_mul, EReal.coe_inv]⟩

/-- The number of features is 768. -/
theorem width_eq : width = ((768 : ℝ) : EReal) := by
  simp [width, Ideal.ofBits, Ideal.ieee, -EReal.coe_mul]; norm_num

/-- The variance's guard is a positive real. -/
theorem guard5_pos : ∃ r : ℝ, 0 < r ∧ guard5 = (r : EReal) := by
  simp [guard5, Ideal.ofBits, Ideal.ieee, -EReal.coe_mul]

/-- The least temperature is a positive real. -/
theorem quarter_pos : ∃ r : ℝ, 0 < r ∧ quarter = (r : EReal) := by
  simp [quarter, Ideal.ofBits, Ideal.ieee, -EReal.coe_mul]

/-- The mean of finite features is finite. -/
theorem mean_fine {x : Fin 768 → EReal} (hx : ∀ k, Fine (x k)) : Fine (mean x) := by
  refine (Fine.sum _ hx).div ⟨_, width_eq⟩ ?_
  rw [width_eq]; norm_num

/-- The guarded variance of finite features is a positive real. -/
theorem spread_pos {x : Fin 768 → EReal} (hx : ∀ k, Fine (x k)) : ∃ r : ℝ, 0 < r ∧ spread x + guard5 = (r : EReal) := by
  obtain ⟨g, hg, eg⟩ := guard5_pos
  obtain ⟨m, hm⟩ := mean_fine hx
  choose f hf using hx
  refine ⟨(∑ k, (f k - m) * (f k - m)) * (768 : ℝ)⁻¹ + g, ?_, ?_⟩
  · have : 0 ≤ ∑ k, (f k - m) * (f k - m) := Finset.sum_nonneg fun k _ => mul_self_nonneg _
    positivity
  · have hs : ∀ s : Finset (Fin 768), (∑ k ∈ s, (x k - mean x) * (x k - mean x)) = ((∑ k ∈ s, (f k - m) * (f k - m) : ℝ) : EReal) := by
      intro s
      induction s using Finset.induction_on with
      | empty => simp
      | insert a s ha ih =>
        rw [Finset.sum_insert ha, Finset.sum_insert ha, ih, hf a, hm]
        push_cast; rfl
    unfold spread Ideal.div
    rw [hs, width_eq, eg, if_neg (by norm_num), EReal.coe_add, EReal.coe_mul, EReal.coe_inv]

/-- Division by the square root of a positive real is multiplication by its reciprocal square root. -/
theorem div_sqrt (a : EReal) {r : ℝ} (hr : 0 < r) : Ideal.div a (Ideal.sqrt (r : EReal)) = a * Ideal.rsqrt (r : EReal) := by
  have h0 : Real.sqrt r ≠ 0 := (Real.sqrt_pos.mpr hr).ne'
  have h1 : Ideal.sqrt (r : EReal) = (Real.sqrt r : EReal) := if_neg (not_lt.mpr hr.le)
  have h2 : Ideal.rsqrt (r : EReal) = ((Real.sqrt r)⁻¹ : ℝ) := by
    show (if r < 0 then ⊥ else if r = 0 then ⊤ else (((Real.sqrt r)⁻¹ : ℝ) : EReal)) = _
    rw [if_neg (not_lt.mpr hr.le), if_neg hr.ne']
  unfold Ideal.div
  rw [h1, h2, if_neg (by exact_mod_cast h0), EReal.coe_inv]

/-- A sum of two numbers is real only if both are. -/
theorem Fine.of_add {x y : EReal} (h : Fine (x + y)) : Fine x ∧ Fine y := by
  obtain ⟨r, hr⟩ := h
  induction x with
  | bot => rw [EReal.bot_add] at hr; exact absurd hr (EReal.bot_ne_coe r)
  | coe a =>
    refine ⟨⟨a, rfl⟩, ?_⟩
    induction y with
    | bot => rw [EReal.add_bot] at hr; exact absurd hr (EReal.bot_ne_coe r)
    | coe b => exact ⟨b, rfl⟩
    | top => rw [EReal.coe_add_top] at hr; exact absurd hr (EReal.top_ne_coe r)
  | top =>
    induction y with
    | bot => rw [EReal.add_bot] at hr; exact absurd hr (EReal.bot_ne_coe r)
    | coe b => rw [EReal.top_add_coe] at hr; exact absurd hr (EReal.top_ne_coe r)
    | top => rw [EReal.top_add_top] at hr; exact absurd hr (EReal.top_ne_coe r)

/-- A finite sum is real only if every term is. -/
theorem Fine.of_sum {ι : Type} (s : Finset ι) {f : ι → EReal} (h : Fine (∑ i ∈ s, f i)) : ∀ i ∈ s, Fine (f i) := by
  classical
  induction s using Finset.induction_on with
  | empty => intro i hi; exact absurd hi (Finset.notMem_empty i)
  | insert a s ha ih =>
    rw [Finset.sum_insert ha] at h
    intro i hi
    rcases Finset.mem_insert.mp hi with e | hi
    · exact e ▸ h.of_add.1
    · exact ih h.of_add.2 i hi

/-- A number that is not real is infinite. -/
theorem infinite_of {x : EReal} (h : ¬ Fine x) : x = ⊤ ∨ x = ⊥ := by
  induction x with
  | bot => exact Or.inr rfl
  | coe r => exact absurd ⟨r, rfl⟩ h
  | top => exact Or.inl rfl

/-- Infinity over the number of features is infinity. -/
theorem top_div_width : Ideal.div ⊤ width = ⊤ := by
  unfold Ideal.div
  rw [width_eq, if_neg (by norm_num), ← EReal.coe_inv, EReal.top_mul_coe_of_pos (by norm_num)]

/-- Minus infinity over the number of features is minus infinity. -/
theorem bot_div_width : Ideal.div ⊥ width = ⊥ := by
  unfold Ideal.div
  rw [width_eq, if_neg (by norm_num), ← EReal.coe_inv, EReal.bot_mul_coe_of_pos (by norm_num)]

/-- Features that are not all real have an infinite mean. -/
theorem mean_infinite {x : Fin 768 → EReal} (hx : ¬ ∀ k, Fine (x k)) : mean x = ⊤ ∨ mean x = ⊥ := by
  have hs : ¬ Fine (∑ k, x k) := fun h => hx fun k => Fine.of_sum _ h k (Finset.mem_univ k)
  unfold mean
  rcases infinite_of hs with e | e
  · exact Or.inl (by rw [e, top_div_width])
  · exact Or.inr (by rw [e, bot_div_width])

/-- The square of a distance from an infinite number is infinity. -/
theorem square_infinite {m : EReal} (h : m = ⊤ ∨ m = ⊥) (x : EReal) : (x - m) * (x - m) = ⊤ := by
  have hd : x - m = ⊤ ∨ x - m = ⊥ := by
    rcases h with rfl | rfl
    · exact Or.inr (by rw [sub_eq_add_neg, EReal.neg_top, EReal.add_bot])
    · induction x with
      | bot => exact Or.inr (by rw [sub_eq_add_neg, EReal.bot_add])
      | coe r => exact Or.inl (by rw [sub_eq_add_neg, EReal.neg_bot, EReal.coe_add_top])
      | top => exact Or.inl (by rw [sub_eq_add_neg, EReal.neg_bot, EReal.top_add_top])
  rcases hd with e | e
  · rw [e, EReal.top_mul_top]
  · rw [e, EReal.bot_mul_bot]

/-- Features that are not all real have an infinite guarded variance. -/
theorem spread_infinite {x : Fin 768 → EReal} (hx : ¬ ∀ k, Fine (x k)) : spread x + guard5 = ⊤ := by
  obtain ⟨g, _, eg⟩ := guard5_pos
  have hsq : ∀ k, (x k - mean x) * (x k - mean x) = ⊤ := fun k => square_infinite (mean_infinite hx) (x k)
  have hs : (∑ k, (x k - mean x) * (x k - mean x)) = ⊤ := by
    have h1 : ¬ Fine (∑ k, (x k - mean x) * (x k - mean x)) := by
      intro h
      obtain ⟨r, hr⟩ := Fine.of_sum _ h 0 (Finset.mem_univ 0)
      rw [hsq 0] at hr
      exact absurd hr (EReal.top_ne_coe r)
    have h2 : 0 ≤ ∑ k, (x k - mean x) * (x k - mean x) := Finset.sum_nonneg fun k _ => by rw [hsq k]; exact le_top
    exact (infinite_of h1).resolve_right fun e => absurd h2 (by rw [e]; simp)
  unfold spread
  rw [hs, top_div_width, eg, EReal.top_add_coe]

/-- Over an infinite variance both ways of norming give nought. -/
theorem div_sqrt_top (a : EReal) : Ideal.div a (Ideal.sqrt ⊤) = 0 ∧ a * Ideal.rsqrt ⊤ = 0 := by
  refine ⟨?_, mul_zero a⟩
  show Ideal.div a ⊤ = 0
  unfold Ideal.div
  rw [if_neg (by simp), EReal.inv_top, mul_zero]

/-- The two ways of writing the layer norm agree. -/
theorem normedDiv_eq (x w b : Fin 768 → EReal) : normedDiv x w b = normed x w b := by
  funext k
  unfold normedDiv normed
  by_cases hx : ∀ k, Fine (x k)
  · obtain ⟨r, hr, e⟩ := spread_pos hx
    rw [e, div_sqrt _ hr]
  · rw [spread_infinite hx, (div_sqrt_top _).1, (div_sqrt_top _).2]

/-- The layer norm with finite weights and biases is finite: of infinite features it is the bias. -/
theorem normed_fine (x : Fin 768 → EReal) {w b : Fin 768 → EReal} (hw : ∀ k, Fine (w k)) (hb : ∀ k, Fine (b k)) (k : Fin 768) :
    Fine (normed x w b k) := by
  unfold normed
  by_cases hx : ∀ k, Fine (x k)
  · obtain ⟨r, hr, e⟩ := spread_pos hx
    have h2 : Fine (Ideal.rsqrt (r : EReal)) := by
      refine ⟨(Real.sqrt r)⁻¹, ?_⟩
      show (if r < 0 then ⊥ else if r = 0 then ⊤ else (((Real.sqrt r)⁻¹ : ℝ) : EReal)) = _
      rw [if_neg (not_lt.mpr hr.le), if_neg hr.ne']
    rw [e]
    exact ((((hx k).sub (mean_fine hx)).mul h2).mul (hw k)).add (hb k)
  · rw [spread_infinite hx, (div_sqrt_top _).2, zero_mul, zero_add]
    exact hb k

/-- A score of finite numbers is finite, whatever the temperature is. -/
theorem score_fine {y W : Fin 768 → EReal} {b : EReal} (hy : ∀ k, Fine (y k)) (hW : ∀ k, Fine (W k)) (hb : Fine b) (t : EReal) :
    Fine (score y W b t) := by
  obtain ⟨q, hq, eq⟩ := quarter_pos
  have hn : Fine (∑ k, y k * W k + b) := (Fine.sum _ fun k => (hy k).mul (hW k)).add hb
  have hp : (0 : EReal) < max t quarter := lt_of_lt_of_le (by rw [eq]; exact_mod_cast hq) (le_max_right _ _)
  unfold score
  generalize max t quarter = d at hp
  induction d with
  | bot => exact absurd hp (by simp)
  | coe r => exact hn.div ⟨r, rfl⟩ hp.ne'
  | top => exact ⟨0, by unfold Ideal.div; rw [if_neg hp.ne']; simp⟩

end Cert.Plain

end
-- ==== Proof.PlainTop.lean ====
/-
  The two best of eight scores: the first two places of a stable sorting, the kernel's two searches for the greatest
  score, and the gates both of them give.
-/
module

public import proofs.«01_k».proof.Proof.PlainNorm
public import Idealize.ShloMosaic.Lib.SortFacts

@[expose] public section

noncomputable section

namespace Cert.Plain

open Idealize.ShloMosaic

/-- Whether the sorting puts expert `a` ahead of expert `b`: its score is the greater. -/
def ahead (L : Fin 8 → EReal) (a b : Fin 8) : Bool := FloatOps.cmpfTotal (F := Ideal) (φ := .f32) .gt (L a) (L b) == 1#1

/-- The expert at a place of the sorting. -/
def place (L : Fin 8 → EReal) (k : Fin 8) : Fin 8 := sortedFrom (ahead L) k

/-- The order the sorting keeps: the greater score first, and of equal scores the lower number. -/
def Beats (L : Fin 8 → EReal) (a b : Fin 8) : Prop := L b < L a ∨ (L a = L b ∧ a < b)

/-- The same order, decided. -/
def beats (L : Fin 8 → EReal) (a b : Fin 8) : Bool := @decide (Beats L a b) (Classical.propDecidable _)

/-- The test that orders the experts decides the order. -/
theorem beats_iff (L : Fin 8 → EReal) (a b : Fin 8) : beats L a b = true ↔ Beats L a b :=
  @decide_eq_true_iff _ (Classical.propDecidable _)

/-- One score comes ahead of another when it is greater. -/
theorem ahead_iff (L : Fin 8 → EReal) (a b : Fin 8) : ahead L a b = true ↔ L b < L a := by
  show (BitVec.ofBool (decide (L b < L a)) == 1#1) = true ↔ _
  by_cases h : L b < L a <;> simp [h]

/-- On a list of rising numbers the sorting by score alone keeps the order. -/
theorem stable_eq (L : Fin 8 → EReal) : ∀ l : List (Fin 8), l.Pairwise (· < ·) → stableSort (ahead L) l = stableSort (beats L) l
  | [], _ => rfl
  | a :: l, h => by
    rw [List.pairwise_cons] at h
    show insertBefore (ahead L) a (stableSort (ahead L) l) = insertBefore (beats L) a (stableSort (beats L) l)
    rw [stable_eq L l h.2]
    refine insertBefore_congr _ _ a _ fun b hb => ?_
    have hab : a < b := h.1 b ((perm_stableSort _ l).mem_iff.mp hb)
    rw [Bool.eq_iff_iff, ahead_iff, beats_iff]
    exact ⟨Or.inl, fun g => g.elim id fun g => absurd g.2 (not_lt.mpr hab.le)⟩

/-- A place of the sorting, under the full order of the experts. -/
theorem place_eq (L : Fin 8 → EReal) (k : Fin 8) : place L k = sortedFrom (beats L) k := by
  have e : sortPositions 8 (ahead L) = sortPositions 8 (beats L) := stable_eq L _ (List.pairwise_lt_finRange 8)
  unfold place sortedFrom
  rw [List.get_of_eq e]
  rfl

/-- No two experts beat each other. -/
theorem Beats.asymm {L : Fin 8 → EReal} {a b : Fin 8} (h : Beats L a b) : ¬ Beats L b a := by
  rintro (g | ⟨g, g'⟩) <;> rcases h with h | ⟨h, h'⟩
  · exact absurd h (not_lt.mpr g.le)
  · exact absurd h g.ne
  · exact absurd g h.ne
  · exact absurd h' (not_lt.mpr g'.le)

/-- Of two experts one beats the other. -/
theorem Beats.total {L : Fin 8 → EReal} {a b : Fin 8} (h : a ≠ b) : Beats L a b ∨ Beats L b a := by
  rcases lt_trichotomy (L a) (L b) with g | g | g
  · exact Or.inr (Or.inl g)
  · rcases lt_or_gt_of_ne h with i | i
    · exact Or.inl (Or.inr ⟨g, i⟩)
    · exact Or.inr (Or.inr ⟨g.symm, i⟩)
  · exact Or.inl (Or.inl g)

/-- The order of the experts is transitive. -/
theorem Beats.trans {L : Fin 8 → EReal} {a b c : Fin 8} (h : Beats L a b) (g : Beats L b c) : Beats L a c := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

/-- An earlier place of the sorting beats a later one. -/
theorem place_beats (L : Fin 8 → EReal) {i j : Fin 8} (h : i < j) : Beats L (place L i) (place L j) := by
  have hn := sortedFrom_noInversion (beats L) (beats L)
    (fun a b g => by
      rw [Bool.eq_false_iff]; intro g'
      exact ((beats_iff L a b).mp g).asymm ((beats_iff L b a).mp g'))
    (fun _ _ g => g)
    (fun a b c g g' => by
      rw [Bool.eq_false_iff, Ne, beats_iff] at g g' ⊢
      intro k
      by_cases hab : a = b
      · exact g' (hab ▸ k)
      · by_cases hbc : b = c
        · exact g (hbc ▸ k)
        · exact ((((Beats.total (L := L) hbc).resolve_left g').trans ((Beats.total hab).resolve_left g))).asymm k)
    i j h
  rw [Bool.eq_false_iff, Ne, beats_iff, ← place_eq, ← place_eq] at hn
  refine (Beats.total ?_).resolve_right hn
  rw [place_eq, place_eq]
  exact fun e => h.ne (sortedFrom_injective _ e)

/-- Every expert has a place. -/
theorem place_surj (L : Fin 8 → EReal) (e : Fin 8) : ∃ k, place L k = e := by
  obtain ⟨k, hk⟩ := sortedFrom_surjective (beats L) e
  exact ⟨k, by rw [place_eq]; exact hk⟩

/-- The best expert. -/
abbrev best (L : Fin 8 → EReal) : Fin 8 := place L 0
/-- The second-best expert. -/
abbrev next (L : Fin 8 → EReal) : Fin 8 := place L 1

/-- The best expert beats every other. -/
theorem best_beats (L : Fin 8 → EReal) {e : Fin 8} (h : e ≠ best L) : Beats L (best L) e := by
  obtain ⟨k, rfl⟩ := place_surj L e
  refine place_beats L (Fin.pos_of_ne_zero fun hk => h (by rw [hk]))

/-- The second-best expert beats every other but the best. -/
theorem next_beats (L : Fin 8 → EReal) {e : Fin 8} (h : e ≠ best L) (h' : e ≠ next L) : Beats L (next L) e := by
  obtain ⟨k, rfl⟩ := place_surj L e
  refine place_beats L ?_
  have h0 : k ≠ 0 := fun hk => h (by rw [hk])
  have h1 : k ≠ 1 := fun hk => h' (by rw [hk])
  clear h h'
  revert k; decide

/-- The second-best expert isn't the best. -/
theorem next_ne (L : Fin 8 → EReal) : next L ≠ best L := by
  intro e
  have h := place_beats L (show (0 : Fin 8) < 1 by decide)
  rw [show place L 1 = place L 0 from e] at h
  exact h.asymm h

/-- No score is above the best expert's. -/
theorem le_best (L : Fin 8 → EReal) (e : Fin 8) : L e ≤ L (best L) := by
  by_cases h : e = best L
  · rw [← h]
  · rcases best_beats L h with g | g
    · exact g.le
    · exact g.1.ge

/-- The word for minus infinity is minus infinity. -/
theorem lowest_eq : lowest = ⊥ := by simp [lowest, Ideal.ofBits, Ideal.ieee]

/-- The greatest score, given an expert who has it. -/
theorem peak_eq {L : Fin 8 → EReal} {p : Fin 8} (h : ∀ e, L e ≤ L p) : peak L = L p := by
  refine le_antisymm ?_ ((Finset.le_fold_max _).mpr (Or.inr ⟨p, Finset.mem_univ _, le_rfl⟩))
  refine (Finset.fold_max_le _).mpr ⟨?_, fun e _ => h e⟩
  rw [lowest_eq]; exact bot_le

/-- The least number among those marked, by cases. -/
theorem least_marked : ∀ b0 b1 b2 b3 b4 b5 b6 b7 : Bool, ∀ p : Fin 8, ![b0, b1, b2, b3, b4, b5, b6, b7] p = true →
    (∀ e : Fin 8, e < p → ![b0, b1, b2, b3, b4, b5, b6, b7] e = false) →
    IntOp.minsi (if b0 then 0#32 else 8#32) (IntOp.minsi (if b1 then 1#32 else 8#32) (IntOp.minsi (if b2 then 2#32 else 8#32)
      (IntOp.minsi (if b3 then 3#32 else 8#32) (IntOp.minsi (if b4 then 4#32 else 8#32) (IntOp.minsi (if b5 then 5#32 else 8#32)
        (IntOp.minsi (if b6 then 6#32 else 8#32) (IntOp.minsi (if b7 then 7#32 else 8#32) 2147483647#32)))))))
      = BitVec.ofNat 32 p.val := by
  decide +kernel

/-- A fold over eight numbers, written out. -/
theorem fold_eight {α : Type} (op : α → α → α) [Std.Commutative op] [Std.Associative op] (b : α) (f : Fin 8 → α) :
    Finset.univ.fold op b f = op (f 0) (op (f 1) (op (f 2) (op (f 3) (op (f 4) (op (f 5) (op (f 6) (op (f 7) b))))))) := rfl

/-- The kernel's search finds the lowest number that has the score. -/
theorem firstAt_eq {L : Fin 8 → EReal} {z : EReal} {p : Fin 8} (h : L p = z) (h' : ∀ e, e < p → L e ≠ z) :
    firstAt L z = BitVec.ofNat 32 p.val := by
  have hv : ![decide (L 0 = z), decide (L 1 = z), decide (L 2 = z), decide (L 3 = z), decide (L 4 = z), decide (L 5 = z), decide (L 6 = z),
      decide (L 7 = z)] = fun e => decide (L e = z) := by
    funext e; fin_cases e <;> rfl
  have := least_marked (decide (L 0 = z)) (decide (L 1 = z)) (decide (L 2 = z)) (decide (L 3 = z)) (decide (L 4 = z)) (decide (L 5 = z))
    (decide (L 6 = z)) (decide (L 7 = z)) p (by rw [hv]; exact decide_eq_true h) (fun e he => by rw [hv]; exact decide_eq_false (h' e he))
  rw [← this]
  simp only [decide_eq_true_eq]
  exact fold_eight IntOp.minsi _ _

/-- Whether a word is an expert's number, at an expert's number. -/
theorem here_ofNat : ∀ e p : Fin 8, here e (BitVec.ofNat 32 p.val) = if e = p then 1#1 else 0#1 := by decide

/-- Selecting where an expert's number is found is a case on the expert. -/
theorem select_here {α : Type} (e p : Fin 8) (x y : α) : Scalar.select (here e (BitVec.ofNat 32 p.val)) x y = if e = p then x else y := by
  rw [here_ofNat]
  by_cases h : e = p
  · rw [if_pos h, if_pos h]; rfl
  · rw [if_neg h, if_neg h]; rfl

section Gate

variable {L : Fin 8 → EReal}

/-- The greatest score is the best expert's. -/
theorem peak_best (L : Fin 8 → EReal) : peak L = L (best L) := peak_eq (le_best L)

/-- The lowest expert with the greatest score is the best. -/
theorem firstAt_best (L : Fin 8 → EReal) : firstAt L (peak L) = BitVec.ofNat 32 (best L).val := by
  refine firstAt_eq (peak_best L).symm fun e he h => ?_
  rw [peak_best] at h
  rcases best_beats L he.ne with g | g
  · exact absurd h g.ne
  · exact absurd g.2 (not_lt.mpr he.le)

/-- The scores with the best expert's struck out, as a case on the expert. -/
theorem masked_eq (L : Fin 8 → EReal) (e : Fin 8) : masked L e = if e = best L then ⊥ else L e := by
  unfold masked
  rw [firstAt_best, select_here, lowest_eq]

/-- The second-best expert's score isn't struck out. -/
theorem masked_next (L : Fin 8 → EReal) : masked L (next L) = L (next L) := by
  rw [masked_eq, if_neg (next_ne L)]

/-- The greatest score left is the second-best expert's. -/
theorem peak_masked (L : Fin 8 → EReal) : peak (masked L) = L (next L) := by
  rw [← masked_next L]
  refine peak_eq fun e => ?_
  rw [masked_next, masked_eq]
  split
  · exact bot_le
  · rename_i h
    by_cases h' : e = next L
    · rw [← h']
    · rcases next_beats L h h' with g | g
      · exact g.le
      · exact g.1.ge

/-- The lowest expert with the greatest score left is the second best. -/
theorem firstAt_next (hL : ∀ e, Fine (L e)) : firstAt (masked L) (peak (masked L)) = BitVec.ofNat 32 (next L).val := by
  rw [peak_masked]
  refine firstAt_eq (masked_next L) fun e he h => ?_
  rw [masked_eq] at h
  split at h
  · obtain ⟨r, hr⟩ := hL (next L)
    rw [hr] at h
    exact absurd h (by simp)
  · rename_i hb
    rcases next_beats L hb he.ne with g | g
    · exact absurd h g.ne
    · exact absurd g.2 (not_lt.mpr he.le)

/-- The second-best score's exponential, taken from the best. -/
def rise (L : Fin 8 → EReal) : EReal := Ideal.exp (L (next L) - L (best L))

/-- The best expert's gate. -/
def first (L : Fin 8 → EReal) : EReal := Ideal.div 1 (1 + rise L)
/-- The second-best expert's gate. -/
def second (L : Fin 8 → EReal) : EReal := Ideal.div (rise L) (1 + rise L)

/-- The kernel's exponential is that of the two scores' difference. -/
theorem edge_eq (L : Fin 8 → EReal) : edge L = rise L := by
  unfold edge rise; rw [peak_masked, peak_best]

/-- The kernel's gates: the best expert's, the second-best's, and nothing for the others. -/
theorem gate_eq (hL : ∀ e, Fine (L e)) (e : Fin 8) :
    gate L e = (if e = best L then first L else 0) + (if e = next L then second L else 0) := by
  unfold gate
  rw [firstAt_best, firstAt_next hL, select_here, select_here, edge_eq]
  rfl

/-- That exponential is a positive real. -/
theorem rise_pos (hL : ∀ e, Fine (L e)) : ∃ r : ℝ, 0 < r ∧ rise L = (r : EReal) := by
  obtain ⟨d, hd⟩ := (hL (next L)).sub (hL (best L))
  exact ⟨Real.exp d, Real.exp_pos d, by unfold rise; rw [hd]; rfl⟩

/-- The best expert's gate is neither negative nor infinite. -/
theorem first_fine (hL : ∀ e, Fine (L e)) : 0 ≤ first L ∧ first L ≠ ⊤ := by
  obtain ⟨r, hr, e⟩ := rise_pos hL
  have h : first L = ((1 * (1 + r)⁻¹ : ℝ) : EReal) := by
    unfold first Ideal.div
    rw [e, show (1 : EReal) + r = ((1 + r : ℝ) : EReal) by push_cast; rfl, if_neg (by exact_mod_cast (by positivity : (1 + r) ≠ 0)),
      EReal.coe_mul, EReal.coe_inv]
    rfl
  rw [h]
  exact ⟨by exact_mod_cast (by positivity), EReal.coe_ne_top _⟩

/-- The second-best expert's gate is neither negative nor infinite. -/
theorem second_fine (hL : ∀ e, Fine (L e)) : 0 ≤ second L ∧ second L ≠ ⊤ := by
  obtain ⟨r, hr, e⟩ := rise_pos hL
  have h : second L = ((r * (1 + r)⁻¹ : ℝ) : EReal) := by
    unfold second Ideal.div
    rw [e, show (1 : EReal) + r = ((1 + r : ℝ) : EReal) by push_cast; rfl, if_neg (by exact_mod_cast (by positivity : (1 + r) ≠ 0)),
      EReal.coe_mul, EReal.coe_inv]
  rw [h]
  exact ⟨by exact_mod_cast (by positivity), EReal.coe_ne_top _⟩

/-- A number that is not negative and not infinite distributes over a sum. -/
theorem gated_add {g : EReal} (h : 0 ≤ g ∧ g ≠ ⊤) (x y : EReal) : g * (x + y) = g * x + g * y :=
  EReal.left_distrib_of_nonneg_of_ne_top h.1 h.2 x y

/-- A sum over the experts under the kernel's gates has two terms. -/
theorem gated_sum (hL : ∀ e, Fine (L e)) (X : Fin 8 → EReal) :
    ∑ e, gate L e * X e = first L * X (best L) + second L * X (next L) := by
  have h : ∀ e, gate L e * X e = (if e = best L then first L * X e else 0) + (if e = next L then second L * X e else 0) := by
    intro e
    rw [gate_eq hL]
    by_cases h : e = best L
    · have h' : e ≠ next L := fun i => next_ne L (i ▸ h)
      rw [if_pos h, if_pos h, if_neg h', if_neg h', add_zero, add_zero]
    · by_cases h' : e = next L
      · rw [if_neg h, if_neg h, if_pos h', if_pos h', zero_add, zero_add]
      · rw [if_neg h, if_neg h, if_neg h', if_neg h', add_zero, zero_mul]
  simp only [h, Finset.sum_add_distrib, Finset.sum_ite_eq', Finset.mem_univ, if_true]

/-- The kernel's output, the biases first and then the sixteen half experts, is the two best experts' outputs under
    their gates. -/
theorem mixture (hL : ∀ e, Fine (L e)) (B : Fin 8 → EReal) (C : Fin 8 → Fin 2 → EReal) :
    (∑ e, gate L e * B e) + ∑ e, ∑ h, gate L e * C e h
      = first L * ((C (best L) 0 + C (best L) 1) + B (best L)) + second L * ((C (next L) 0 + C (next L) 1) + B (next L)) := by
  simp only [Fin.sum_univ_two, Finset.sum_add_distrib]
  rw [gated_sum hL, gated_sum hL (fun e => C e 0), gated_sum hL (fun e => C e 1)]
  rw [gated_add (first_fine hL), gated_add (first_fine hL), gated_add (second_fine hL), gated_add (second_fine hL)]
  abel

/-- The gates as a softmax of the two best scores gives them. -/
theorem softmax_two (hL : ∀ e, Fine (L e)) (v : Fin 2 → EReal) (h0 : v 0 = L (best L)) (h1 : v 1 = L (next L)) (X : Fin 2 → EReal) :
    ∑ k, Ideal.div (Ideal.exp (v k - max lowest (Finset.univ.fold max lowest v)))
        (∑ x, Ideal.exp (v x - max lowest (Finset.univ.fold max lowest v))) * X k
      = first L * X 0 + second L * X 1 := by
  have hm : max lowest (Finset.univ.fold max lowest v) = L (best L) := by
    rw [max_eq_right ((Finset.le_fold_max _).mpr (Or.inl le_rfl))]
    refine le_antisymm ((Finset.fold_max_le _).mpr ⟨?_, fun k _ => ?_⟩) ((Finset.le_fold_max _).mpr (Or.inr ⟨0, Finset.mem_univ _, h0.ge⟩))
    · rw [lowest_eq]; exact bot_le
    · match k with
      | 0 => exact h0.le
      | 1 => rw [h1]; exact le_best L _
  have h00 : Ideal.exp (L (best L) - L (best L)) = 1 := by
    obtain ⟨r, hr⟩ := hL (best L)
    rw [hr, ← EReal.coe_sub, sub_self]
    show ((Real.exp 0 : ℝ) : EReal) = 1
    rw [Real.exp_zero]; rfl
  rw [hm]
  simp only [Fin.sum_univ_two, h0, h1, h00]
  rfl

end Gate

end Cert.Plain

end
-- ==== Proof.RefTop.lean ====
/-
  The two best experts of a token as the reference takes them: the first two places of a sorting of its scores, and the
  output it gathers at an expert's number.
-/
module

public import proofs.«01_k».proof.Proof.RefRead
public import proofs.«01_k».proof.Proof.PlainTop

@[expose] public section

set_option maxRecDepth 16384

noncomputable section

namespace Cert.ReferenceIdeal.Value

open Cert.ReferenceIdeal Cert.ReferenceIdeal.Gen Cert.Plain
open Idealize.ShloMosaic Idealize.ShloMosaic.TcCoe Idealize.SL.Sem Idealize.ShloMosaic.StableHlo

/-- An index moved along its last axis. -/
theorem along_last (p : Fin 32) (q a b : Fin 8) : (ix3 p q a : S32x8x8.Idx).along 2 b = ix3 p q b := by
  funext i; apply Fin.ext
  match i with
  | ⟨0, _⟩ => rfl
  | ⟨1, _⟩ => rfl
  | ⟨2, _⟩ => rfl

/-- The two best scores at an index. -/
theorem rBest_apply (L : FVec Ideal S32x8x8 .f32) (p : Fin 32) (q : Fin 8) (k : Fin 2) :
    rBest L (ix3 p q k) = L (ix3 p q (place (fun e => L (ix3 p q e)) (Fin.castLE (by decide) k))) := by
  unfold rBest Host.topK Host.sort2
  pointwise
  rw [along_last]
  refine congrArg (fun e => L (ix3 p q e)) ?_
  unfold place
  refine congrArg (fun R => sortedFrom R _) ?_
  funext a b
  rw [along_last, along_last]
  rfl

/-- The two best experts' numbers at an index. -/
theorem rWho_apply (L : FVec Ideal S32x8x8 .f32) (p : Fin 32) (q : Fin 8) (k : Fin 2) :
    rWho L (ix3 p q k) = BitVec.ofNat 32 (place (fun e => L (ix3 p q e)) (Fin.castLE (by decide) k)).val := by
  unfold rWho Host.topK Host.sort2
  pointwise
  refine congrArg (fun e : Fin 8 => BitVec.ofNat 32 e.val) ?_
  rw [along_last]
  show sortedFrom _ _ = _
  unfold place
  refine congrArg (fun R => sortedFrom R _) ?_
  funext a b
  rw [along_last, along_last]
  rfl

/-- The two gates at an index. -/
theorem rGates_apply (v : FVec Ideal S32x8x2 .f32) (p : Fin 32) (q : Fin 8) (k : Fin 2) :
    rGates v (ix3 p q k) = Ideal.div (Ideal.exp (v (ix3 p q k) - max lowest (Finset.univ.fold max lowest fun x => v (ix3 p q x))))
      (∑ x, Ideal.exp (v (ix3 p q x) - max lowest (Finset.univ.fold max lowest fun x => v (ix3 p q x)))) := by
  pointwise [rGates, rPair]

/-- The gathered index: the token's own place, at the expert numbered. -/
theorem gathered (i : IVec S32x8x2x1 32) (p : Fin 32) (q : Fin 8) (k : Fin 2) (d : Fin 768) (e : Fin 8)
    (h : i (ix4 p q k 0) = BitVec.ofNat 32 e.val) :
    gather_S32x8x8x768_S32x8x2x1_S32x8x2x768_3_2_01_01_2_3_111768.operandIdx (ix4 p q k d) i = ix4 p q e d := by
  funext a; apply Fin.ext
  match a with
  | ⟨0, _⟩ => exact (Nat.zero_add _).trans rfl
  | ⟨1, _⟩ => exact (Nat.zero_add _).trans rfl
  | ⟨2, _⟩ =>
    have hs : gather_S32x8x8x768_S32x8x2x1_S32x8x2x768_3_2_01_01_2_3_111768.siIdx (ix4 p q k d) ⟨0, by decide⟩ = ix4 p q k 0 := by
      funext b; apply Fin.ext
      match b with
      | ⟨0, _⟩ => rfl
      | ⟨1, _⟩ => rfl
      | ⟨2, _⟩ => rfl
      | ⟨3, _⟩ => rfl
    show min (i (gather_S32x8x8x768_S32x8x2x1_S32x8x2x768_3_2_01_01_2_3_111768.siIdx (ix4 p q k d) ⟨0, by decide⟩)).toInt.toNat (8 - 1) + 0 + 0 = e.val
    rw [hs, h]
    clear h hs; revert e; decide
  | ⟨3, _⟩ => exact (Nat.zero_add _).trans rfl

/-- A number from nought to seven is not counted from the end. -/
theorem rIdx_apply (i : IVec S32x8x2 32) (p : Fin 32) (q : Fin 8) (k : Fin 2) (e : Fin 8) (h : i (ix3 p q k) = BitVec.ofNat 32 e.val) :
    rIdx i (ix4 p q k 0) = BitVec.ofNat 32 e.val := by
  pointwise [rIdx]
  rw [h]
  clear h; revert e; decide

/-- The chosen expert's output at an index. -/
theorem rChosen_apply (y : FVec Ideal S32x8x8x768 .f32) (i : IVec S32x8x2x1 32) (p : Fin 32) (q : Fin 8) (k : Fin 2) (d : Fin 768) (e : Fin 8)
    (h : i (ix4 p q k 0) = BitVec.ofNat 32 e.val) : rChosen y i (ix4 p q k d) = y (ix4 p q e d) := by
  have hv : rValid i (ix3 p q k) = 1#1 := by
    pointwise [rValid]
    rw [show (Finset.univ : Finset (Fin 1)) = {0} from rfl]
    simp only [Finset.fold_singleton]
    rw [h]
    clear h; revert e; decide
  have hc : rChosen y i (ix4 p q k d) = Scalar.select (rValid i (ix3 p q k))
      (y (gather_S32x8x8x768_S32x8x2x1_S32x8x2x768_3_2_01_01_2_3_111768.operandIdx (ix4 p q k d) i)) (Ideal.ofBits .f32 0x7FC00000#32) := by
    pointwise [rChosen]
    rfl
  rw [hc, hv, gathered i p q k d e h]
  rfl

end Cert.ReferenceIdeal.Value

end
-- ==== Proof.KernelRead.lean ====
/-
  The kernel's vector expressions read at an index: each is one of the plain functions of Proof/Plain.lean, of the
  rows of its operands.
-/
module

public import proofs.«01_k».proof.Proof.KernelIdealRun
public import proofs.«01_k».proof.Proof.Plain
public import Idealize.ShloMosaic.Lib.Pointwise

@[expose] public section

set_option maxRecDepth 16384

noncomputable section

namespace Cert.KernelIdeal.Body

open Cert.KernelIdeal.Gen Cert.Plain
open Idealize.ShloMosaic Idealize.ShloMosaic.TcCoe Idealize.ShloMosaic.Tactic

/-- The router's scores, one token and one expert at a time. -/
theorem logits_apply (x : Vec Ideal S256x768 .f32) (w b : Vec Ideal S1x768 .f32) (Wr : Vec Ideal S768x8 .f32) (br : Vec Ideal S1x8 .f32)
    (t : Vec Ideal S1x1 .f32) (r : Fin 256) (e : Fin 8) :
    logits (F := Ideal) x w b Wr br t (ix2 r e)
      = score (normed (fun k => x (ix2 r k)) (fun k => w (ix2 0 k)) (fun k => b (ix2 0 k))) (fun k => Wr (ix2 k e)) (br (ix2 0 e)) (t (ix2 0 0)) := by
  pointwise [logits, k0_pay2, score, normed, spread, mean]

/-- The gates, one token and one expert at a time. -/
theorem gates_apply (L : FVec Ideal S256x8 .f32) (r : Fin 256) (e : Fin 8) :
    gates (F := Ideal) L (ix2 r e) = gate (fun k => L (ix2 r k)) e := by
  pointwise [gates, k0_pay4, k0_pay3]
  rfl

/-- The first statistic is the load-balance loss. -/
theorem stats_0 (L : FVec Ideal S256x8 .f32) : stats (F := Ideal) L (ix2 0 0) = balance (fun r e => L (ix2 r e)) := by
  pointwise [stats, k0_pay13, k0_pay12, k0_pay11, k0_pay10, k0_pay9, k0_pay8, k0_pay7, k0_pay6, k0_pay5, k0_pay3]
  rfl

/-- The second statistic is the z loss. -/
theorem stats_1 (L : FVec Ideal S256x8 .f32) : stats (F := Ideal) L (ix2 0 1) = zloss (fun r e => L (ix2 r e)) := by
  pointwise [stats, k0_pay13, k0_pay12, k0_pay11, k0_pay10, k0_pay9, k0_pay8, k0_pay7, k0_pay6, k0_pay5, k0_pay3]
  rfl

/-- The third statistic is the entropy. -/
theorem stats_2 (L : FVec Ideal S256x8 .f32) : stats (F := Ideal) L (ix2 0 2) = 0 - negEntropy (fun r e => L (ix2 r e)) := by
  pointwise [stats, k0_pay13, k0_pay12, k0_pay11, k0_pay10, k0_pay9, k0_pay8, k0_pay7, k0_pay6, k0_pay5, k0_pay3]
  rfl

/-- The fourth statistic is the total auxiliary loss. -/
theorem stats_3 (L : FVec Ideal S256x8 .f32) : stats (F := Ideal) L (ix2 0 3) = total (fun r e => L (ix2 r e)) := by
  pointwise [stats, k0_pay13, k0_pay12, k0_pay11, k0_pay10, k0_pay9, k0_pay8, k0_pay7, k0_pay6, k0_pay5, k0_pay3]
  rfl

/-- The accumulator's start: the gated second biases. -/
theorem start_apply (g : Vec Ideal S256x8 .f32) (b : Vec Ideal S8x768 .f32) (r : Fin 256) (d : Fin 768) :
    k0_pay15 (F := Ideal) g b (ix2 r d) = ∑ e, g (ix2 r e) * b (ix2 e d) := by
  pointwise [k0_pay15]

/-- One expert's half: the gated product of the activated units with the second weights, added on. -/
theorem step_apply (i : grid0.Coords) (acc : Vec Ideal S256x768 .f32) (g : Vec Ideal S256x8 .f32) (xb : Vec Ideal S256x768 .bf16)
    (x7 : Vec Ideal S1x768x1536 .f32) (x8 : Vec Ideal S1x1x1536 .f32) (x9 : Vec Ideal S1x1536x768 .f32) (r : Fin 256) (d : Fin 768) :
    step (F := Ideal) i acc g xb x7 x8 x9 (ix2 r d)
      = acc (ix2 r d)
        + (∑ e : Fin 8, Scalar.select (here e (BitVec.ofNat 32 (i 0).val)) (g (ix2 r e)) 0)
          * ∑ j : Fin 1536, gelu (unit (fun k => xb (ix2 r k)) (fun k => x7 (ix3 0 k j)) (x8 (ix3 0 0 j))) * x9 (ix3 0 j d) := by
  pointwise [step, k0_pay1, k0_pay16, k0_pay17]
  rfl

/-- The rounded tokens are the tokens. -/
theorem rounded_apply (x : Vec Ideal S256x768 .f32) (r : Fin 256) (k : Fin 768) : k0_pay14 (F := Ideal) x (ix2 r k) = x (ix2 r k) := by
  pointwise [k0_pay14]

end Cert.KernelIdeal.Body

end
-- ==== Proof.Out.lean ====
/-
  The kernel's output block after the last point: the gated second biases, and every expert's two halves gated.
-/
module

public import proofs.«01_k».proof.Proof.Blocks
public import proofs.«01_k».proof.Proof.KernelRead
public import proofs.«01_k».proof.Proof.PlainTop
public import Idealize.ShloMosaic.Lib.Pipeline.ValueKit

@[expose] public section

set_option maxRecDepth 16384

noncomputable section

namespace Cert.KernelIdeal.Body

open Cert.KernelIdeal Cert.KernelIdeal.Gen Cert.Plain
open Idealize.ShloMosaic Idealize.ShloMosaic.TcCoe Idealize.SL.Sem
open Idealize.ShloMosaic.Pipeline (Dat)

/-- A grid point's expert. -/
theorem expert_of : ∀ t : Fin cfg0.N, (grid0.coords t 0).val = t.val / 2 := (by decide +kernel : ∀ t : Fin grid0.N, _)

/-- The gate picked out by an expert's number is that expert's. -/
theorem picked (g : Fin 8 → EReal) (p : Fin 8) : (∑ e, Scalar.select (here e (BitVec.ofNat 32 p.val)) (g e) 0) = g p := by
  rw [Finset.sum_congr rfl fun e _ => select_here e p (g e) 0]
  simp

variable (m : (ℓ : Loc nD τ sig) → Buf (Elt Ideal) ℓ) (c : Dev nD)

/-- A token's scores. -/
abbrev rowOf (r : Fin 256) (e : Fin 8) : EReal := logitsAt m c (ix2 r e)

/-- A hidden unit's number: the half's start and the place in it. -/
def place3072 (h : Fin 2) (j : Fin 1536) : Fin 3072 := ⟨h.val * 1536 + j.val, by have := h.isLt; have := j.isLt; omega⟩

/-- Half an expert's output at a feature, before the second bias. -/
def part (x : Fin 768 → EReal) (W1 : Vec Ideal S8x768x3072 .f32) (b1 : Vec Ideal S8x3072 .f32) (W2 : Vec Ideal S8x3072x768 .f32) (d : Fin 768)
    (e : Fin 8) (h : Fin 2) : EReal :=
  ∑ j : Fin 1536, gelu (unit x (fun k => W1 (ix3 e k (place3072 h j))) (b1 (ix2 e (place3072 h j)))) * W2 (ix3 e (place3072 h j) d)

/-- A token's features, as the arguments hold them. -/
abbrev tokenOf (a : Fin 32) (b : Fin 8) (k : Fin 768) : EReal := m ((c : Thread nD τ).loc main_arg0) (ix3 a b k)

/-- A half of an expert's output for a token, of the arguments. -/
abbrev partOf (a : Fin 32) (b : Fin 8) (d : Fin 768) (e : Fin 8) (h : Fin 2) : EReal :=
  part (tokenOf m c a b) (m ((c : Thread nD τ).loc main_arg6)) (m ((c : Thread nD τ).loc main_arg7)) (m ((c : Thread nD τ).loc main_arg8)) d e h

/-- A grid point's expert, as a number below eight. -/
def expertAt (n : ℕ) (hn : n < 16) : Fin 8 := ⟨n / 2, by omega⟩
/-- A grid point's half. -/
def halfAt (n : ℕ) : Fin 2 := ⟨n % 2, by omega⟩

/-- What one point adds. -/
theorem added (a : Fin 32) (b : Fin 8) (d : Fin 768) (r : Fin 256) (hr : r.val = a.val * 8 + b.val) (acc : Vec Ideal S256x768 .f32) (n : ℕ) (hn : n < cfg0.N)
    (h16 : n < 16) :
    step (F := Ideal) (grid0.coords ⟨n, hn⟩) acc (gatesAt m c) (roundedAt m c) (iblk m c 7 ⟨n, hn⟩) (iblk m c 8 ⟨n, hn⟩) (iblk m c 9 ⟨n, hn⟩) (ix2 r d)
      = acc (ix2 r d) + gate (rowOf m c r) (expertAt n h16) * partOf m c a b d (expertAt n h16) (halfAt n) := by
  rw [step_apply, show (grid0.coords ⟨n, hn⟩ 0).val = (expertAt n h16).val from expert_of ⟨n, hn⟩,
    picked (fun e => gatesAt m c (ix2 r e)) (expertAt n h16)]
  refine congrArg (acc (ix2 r d) + ·) (congrArg₂ (· * ·) (gates_apply _ r _) ?_)
  refine Finset.sum_congr rfl fun j _ => ?_
  rw [blk9 m c ⟨n, hn⟩ j d (expertAt n h16) (place3072 (halfAt n) j) rfl rfl, blk8 m c ⟨n, hn⟩ j (expertAt n h16) (place3072 (halfAt n) j) rfl rfl]
  refine congrArg (gelu · * _) (congrArg₂ (unit · · _) (funext fun k => ?_) (funext fun k => ?_))
  · exact (rounded_apply _ r k).trans (blk0 m c pt0 a b k r hr)
  · exact blk7 m c ⟨n, hn⟩ k j (expertAt n h16) (place3072 (halfAt n) j) rfl rfl

/-- What a point adds, as a function of any number. -/
def term (a : Fin 32) (b : Fin 8) (d : Fin 768) (r : Fin 256) (n : ℕ) : EReal :=
  if h : n < 16 then gate (rowOf m c r) (expertAt n h) * partOf m c a b d (expertAt n h) (halfAt n) else 0

/-- The output block after a point: the start and what the points so far have added. -/
theorem outAt_sum (a : Fin 32) (b : Fin 8) (d : Fin 768) (r : Fin 256) (hr : r.val = a.val * 8 + b.val) : ∀ (n : ℕ) (hn : n < cfg0.N),
    outAt m c n hn (ix2 r d) = (∑ e, gate (rowOf m c r) e * m ((c : Thread nD τ).loc main_arg9) (ix2 e d)) + ∑ i ∈ Finset.range (n + 1), term m c a b d r i
  | 0, hn => by
    rw [Finset.sum_range_one]
    refine (added m c a b d r hr _ 0 hn (by omega)).trans ?_
    rw [start_apply]
    refine congrArg₂ (· + ·) (Finset.sum_congr rfl fun e _ => ?_) ?_
    · rw [blk6 m c pt0 e d]
      exact congrArg (· * _) (gates_apply _ r e)
    · unfold term; rw [dif_pos (by omega)]
  | n + 1, hn => by
    have h16 : n + 1 < 16 := by rw [show cfg0.N = 16 from N_0] at hn; exact hn
    refine (added m c a b d r hr (outAt m c n (Nat.lt_of_succ_lt hn)) (n + 1) hn h16).trans ?_
    rw [outAt_sum a b d r hr n, Finset.sum_range_succ _ (n + 1), add_assoc]
    refine congrArg (_ + ·) (congrArg (_ + ·) ?_)
    unfold term; rw [dif_pos h16]

/-- The output block after the last point, over the experts and their halves. -/
theorem out_value (a : Fin 32) (b : Fin 8) (d : Fin 768) (r : Fin 256) (hr : r.val = a.val * 8 + b.val) (hn : 15 < cfg0.N) :
    outAt m c 15 hn (ix2 r d) = (∑ e, gate (rowOf m c r) e * m ((c : Thread nD τ).loc main_arg9) (ix2 e d))
      + ∑ e, ∑ h, gate (rowOf m c r) e * partOf m c a b d e h := by
  rw [outAt_sum m c a b d r hr 15 hn, Finset.sum_range, Fin.sum_univ_tiles 8 2 rfl]
  refine congrArg (_ + ·) (Finset.sum_congr rfl fun e _ => Finset.sum_congr rfl fun h _ => ?_)
  have he := e.isLt
  have hh := h.isLt
  show term m c a b d r (e.val * 2 + h.val) = _
  unfold term
  rw [dif_pos (by omega)]
  rw [show expertAt (e.val * 2 + h.val) (by omega) = e from Fin.ext (by show (e.val * 2 + h.val) / 2 = e.val; omega),
    show halfAt (e.val * 2 + h.val) = h from Fin.ext (by show (e.val * 2 + h.val) % 2 = h.val; omega)]

end Cert.KernelIdeal.Body

end
-- ==== Proof.RefValue.lean ====
/-
  The reference's output as the kernel's: a token's gated biases and gated halves of the experts' outputs.
-/
module

public import proofs.«01_k».proof.Proof.RefPoint
public import proofs.«01_k».proof.Proof.RefTop
public import proofs.«01_k».proof.Proof.Out
public import proofs.«01_k».proof.Proof.PlainNorm

@[expose] public section

set_option maxRecDepth 16384

noncomputable section

namespace Cert.ReferenceIdeal.Value

open Cert.ReferenceIdeal Cert.ReferenceIdeal.Gen Cert.Plain
open Idealize.ShloMosaic Idealize.ShloMosaic.TcCoe Idealize.SL.Sem Idealize.ShloMosaic.StableHlo
open Cert.KernelIdeal.Body (part place3072)

/-- An expert's output at an index is its two halves and its second bias. -/
theorem expert_value (x : FVec Ideal S32x8x768 .f32) (W1 : FVec Ideal S8x768x3072 .f32) (b1 : FVec Ideal S8x3072 .f32) (W2 : FVec Ideal S8x3072x768 .f32)
    (b2 : FVec Ideal S8x768 .f32) (p : Fin 32) (q e : Fin 8) (d : Fin 768) :
    rAll (rGelu (rUnit x W1 b1)) W2 b2 (ix4 p q e d)
      = (part (fun k => x (ix3 p q k)) W1 b1 W2 d e 0 + part (fun k => x (ix3 p q k)) W1 b1 W2 d e 1) + b2 (ix2 e d) := by
  rw [rAll_apply, Fin.sum_univ_two_halves 1536 1536 rfl]
  have hj : ∀ j : Fin 3072, rGelu (rUnit x W1 b1) (ix4 p q e j) = gelu (unit (fun k => x (ix3 p q k)) (fun k => W1 (ix3 e k j)) (b1 (ix2 e j))) :=
    fun j => by rw [rGelu_apply, rUnit_apply]
  simp only [hj]
  unfold part
  refine congrArg (· + _) (congrArg₂ (· + ·) (Finset.sum_congr rfl fun j _ => ?_) (Finset.sum_congr rfl fun j _ => ?_))
  · rw [show place3072 0 j = ⟨j.val, by have := j.isLt; omega⟩ from Fin.ext (by show 0 * 1536 + j.val = j.val; omega)]
  · rw [show place3072 1 j = ⟨1536 + j.val, by have := j.isLt; omega⟩ from Fin.ext (by show 1 * 1536 + j.val = 1536 + j.val; omega)]

/-- The reference's output at an index, for real scores. -/
theorem out_apply (L : FVec Ideal S32x8x8 .f32) (x : FVec Ideal S32x8x768 .f32) (W1 : FVec Ideal S8x768x3072 .f32) (b1 : FVec Ideal S8x3072 .f32)
    (W2 : FVec Ideal S8x3072x768 .f32) (b2 : FVec Ideal S8x768 .f32) (p : Fin 32) (q : Fin 8) (d : Fin 768) (hL : ∀ e, Fine (L (ix3 p q e))) :
    rOut L (rAll (rGelu (rUnit x W1 b1)) W2 b2) (ix3 p q d)
      = (∑ e, gate (fun e => L (ix3 p q e)) e * b2 (ix2 e d))
        + ∑ e, ∑ h, gate (fun e => L (ix3 p q e)) e * part (fun k => x (ix3 p q k)) W1 b1 W2 d e h := by
  rw [mixture (L := fun e => L (ix3 p q e)) hL (fun e => b2 (ix2 e d)) (fun e h => part (fun k => x (ix3 p q k)) W1 b1 W2 d e h), rOut_apply]
  simp only [rGates_apply]
  rw [softmax_two (L := fun e => L (ix3 p q e)) hL (fun k => rBest L (ix3 p q k)) (rBest_apply L p q 0) (rBest_apply L p q 1)
    (fun k => rChosen (rAll (rGelu (rUnit x W1 b1)) W2 b2) (rIdx (rWho L)) (ix4 p q k d))]
  refine congrArg₂ (· + ·) (congrArg₂ (· * ·) rfl ?_) (congrArg₂ (· * ·) rfl ?_)
  · exact (rChosen_apply _ _ p q 0 d (best fun e => L (ix3 p q e)) (rIdx_apply _ p q 0 _ (rWho_apply L p q 0))).trans (expert_value x W1 b1 W2 b2 p q _ d)
  · exact (rChosen_apply _ _ p q 1 d (next fun e => L (ix3 p q e)) (rIdx_apply _ p q 1 _ (rWho_apply L p q 1))).trans (expert_value x W1 b1 W2 b2 p q _ d)

/-- A token's score with the division by the square root is its score with the reciprocal square root. -/
theorem scores_eq (x : FVec Ideal S32x8x768 .f32) (w b : FVec Ideal S768 .f32) (Wr : FVec Ideal S768x8 .f32) (br : FVec Ideal S8 .f32)
    (t : FVec Ideal S_ .f32) (p : Fin 32) (q e : Fin 8) :
    rScores x w b Wr br t (ix3 p q e)
      = score (normed (fun k => x (ix3 p q k)) (fun k => w (ix1 k)) (fun k => b (ix1 k))) (fun k => Wr (ix2 k e)) (br (ix1 e)) (t ix0) := by
  rw [rScores_apply, normedDiv_eq]

/-- The scores are real when the norm's and the router's weights and biases are, whatever the features and the temperature. -/
theorem scores_fine (x : FVec Ideal S32x8x768 .f32) (w b : FVec Ideal S768 .f32) (Wr : FVec Ideal S768x8 .f32) (br : FVec Ideal S8 .f32)
    (t : FVec Ideal S_ .f32) (hw : ∀ i, Fine (w i)) (hb : ∀ i, Fine (b i)) (hW : ∀ i, Fine (Wr i)) (hr : ∀ i, Fine (br i))
    (p : Fin 32) (q e : Fin 8) : Fine (rScores x w b Wr br t (ix3 p q e)) := by
  rw [scores_eq x w b Wr br t]
  exact score_fine (fun k => normed_fine _ (fun _ => hw _) (fun _ => hb _) k) (fun _ => hW _) (hr _) _

end Cert.ReferenceIdeal.Value

end
-- ==== Proof.Finite.lean ====
/-
  What the precondition gives: the layer norm's weights and biases, and the router's weights and biases are real numbers.
-/
module

public import proofs.«01_k».proof.Defs
public import proofs.«01_k».proof.Proof.PlainNorm
public import Idealize.ShloMosaic.Lib.ReduceAll

@[expose] public section

set_option maxRecDepth 16384

noncomputable section

namespace Cert.Plain

open Idealize.ShloMosaic Cert.Pre_router_weights_finite

/-- A number whose absolute value is below infinity is real. -/
theorem fine_of_below (a : EReal) (h : Ideal.cmp .olt (max a (-a)) (Ideal.ofBits .f32 0x7F800000#32) = 1#1) : Fine a := by
  have htop : Ideal.ofBits .f32 0x7F800000#32 = ⊤ := by simp [Ideal.ofBits, Ideal.ieee]
  rw [htop] at h
  have hlt : max a (-a) < ⊤ := by
    by_contra hc
    unfold Ideal.cmp at h
    simp only [decide_eq_false hc] at h
    exact absurd h (by decide)
  have h1 : a ≠ ⊤ := fun e => absurd hlt (by rw [e]; simp)
  have h2 : a ≠ ⊥ := fun e => absurd hlt (by rw [e]; simp)
  exact ⟨a.toReal, (EReal.coe_toReal h1 h2).symm⟩

/-- Of two bits whose conjunction is one, both are one. -/
theorem both (a b : BitVec 1) (h : IntOp.andi a b = 1#1) : a = 1#1 ∧ b = 1#1 := by
  revert a b; decide

/-- One tensor's part of the precondition: every entry is real. -/
theorem fine_all {s : Shape} {axes : List (Fin s.rank)} (x : FVec Ideal s .f32) (hb : S_.BroadcastsInDim s (![] : Fin 0 → Fin s.rank)) (init : IVec S_ 1)
    (hr : s.ReducesTo axes S_) (hu : 0 < S_.numel) (j : S_.Idx)
    (h : Host.reduce IntOp.andi (cmpf (F := Ideal) .olt (Host.absf x) (broadcastInDim s ![] hb (constant S_ .f32 0x7F800000#32))) init hr hu j = 1#1)
    (i : s.Idx) : Fine (x i) := by
  haveI : Subsingleton S_.Idx := ⟨fun a b => funext fun k => k.elim0⟩
  exact fine_of_below (x i) (Host.reduce_andi_all _ init hr hu j h i)

/-- Everything the precondition gives. -/
theorem fine_inputs [Facts] (x : FVec Ideal S32x8x768 .f32) (w b : FVec Ideal S768 .f32) (Wr : FVec Ideal S768x8 .f32) (br : FVec Ideal S8 .f32)
    (t : FVec Ideal S_ .f32) (W1 : FVec Ideal S8x768x3072 .f32) (b1 : FVec Ideal S8x3072 .f32) (W2 : FVec Ideal S8x3072x768 .f32) (b2 : FVec Ideal S8x768 .f32)
    (h : fn (F := Ideal) x w b Wr br t W1 b1 W2 b2 = fun _ => 1#1) :
    (∀ i, Fine (w i)) ∧ (∀ i, Fine (b i)) ∧ (∀ i, Fine (Wr i)) ∧ ∀ i, Fine (br i) := by
  have h := congrFun h (fun a => a.elim0)
  dsimp only [fn, fn_part1] at h
  obtain ⟨h, h5⟩ := both _ _ h
  obtain ⟨h, h4⟩ := both _ _ h
  obtain ⟨h2, h3⟩ := both _ _ h
  exact ⟨fine_all w _ _ _ _ _ h2, fine_all b _ _ _ _ _ h3, fine_all Wr _ _ _ _ _ h4, fine_all br _ _ _ _ _ h5⟩

end Cert.Plain

end
-- ==== Proof.Meet.lean ====
/-
  The kernel's five results and the reference's, of the same arguments: equal.
-/
module

public import proofs.«01_k».proof.Proof.Tail
public import proofs.«01_k».proof.Proof.RefValue
public import proofs.«01_k».proof.Proof.Finite

@[expose] public section

set_option maxRecDepth 16384

noncomputable section

namespace Cert.KernelIdeal.Body

open Cert.KernelIdeal Cert.KernelIdeal.Gen Cert.Plain
open Idealize.ShloMosaic Idealize.ShloMosaic.TcCoe Idealize.SL.Sem
open Cert.ReferenceIdeal.Value (rScores rOut rAll rGelu rUnit rBalance rZloss rEntropy rTotal tok)

variable (m : (ℓ : Loc nD τ sig) → Buf (Elt Ideal) ℓ) (c : Dev nD)

/-- The reference's scores of the kernel's arguments. -/
abbrev scoresHere : FVec Ideal Cert.ReferenceIdeal.S32x8x8 .f32 :=
  rScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The layer norm's and the router's weights and biases are real. -/
def Real : Prop :=
  (∀ i, Fine (m ((c.tc : Thread nD τ).loc main_arg1) i)) ∧ (∀ i, Fine (m ((c.tc : Thread nD τ).loc main_arg2) i)) ∧ (∀ i, Fine (m ((c.tc : Thread nD τ).loc main_arg3) i)) ∧ (∀ i, Fine (m ((c.tc : Thread nD τ).loc main_arg4) i))

variable {m c}

/-- The kernel's scores are the reference's. -/
theorem rows_meet (h : Real m c) (p : Fin 32) (q e : Fin 8) : scoresHere m c (ix3 p q e) = rowOf m c (tok p q) e := by
  refine (Cert.ReferenceIdeal.Value.scores_eq _ _ _ _ _ _ p q e).trans (Eq.symm ?_)
  refine (logits_apply _ _ _ _ _ _ (tok p q) e).trans ?_
  rw [blk4 m c pt0 e, blk5 m c pt0]
  simp only [blk1 m c pt0, blk2 m c pt0, blk3 m c pt0, fun k => blk0 m c pt0 p q k (tok p q) rfl]

/-- The first result at an index. -/
theorem out_meets_at (h : Real m c) (p : Fin 32) (q : Fin 8) (d : Fin 768) :
    shapeCast S32x8x768 (outAt m c 15 last_lt) shapeCasts_S256x768_S32x8x768 (ix3 p q d)
      = rOut (scoresHere m c) (rAll (rGelu (rUnit (m ((c.tc : Thread nD τ).loc main_arg0)) (m ((c.tc : Thread nD τ).loc main_arg6)) (m ((c.tc : Thread nD τ).loc main_arg7)))) (m ((c.tc : Thread nD τ).loc main_arg8)) (m ((c.tc : Thread nD τ).loc main_arg9))) (ix3 p q d) := by
  rw [row_apply _ _ _ _ (tok p q) rfl, out_value m c p q d (tok p q) rfl]
  rw [Cert.ReferenceIdeal.Value.out_apply _ _ _ _ _ _ _ _ _ fun e => Cert.ReferenceIdeal.Value.scores_fine _ _ _ _ _ _ h.1 h.2.1 h.2.2.1 h.2.2.2 _ _ _]
  rw [show (fun e => scoresHere m c (ix3 p q e)) = rowOf m c (tok p q) from funext fun e => rows_meet h _ _ e]

/-- The first result. -/
theorem out_meets (h : Real m c) : Pipeline.afterTail₀ cfgs (dats m) 0 (V0 m) [hostOps1] c main_v0_0
    = rOut (scoresHere m c) (rAll (rGelu (rUnit (m ((c.tc : Thread nD τ).loc main_arg0)) (m ((c.tc : Thread nD τ).loc main_arg6)) (m ((c.tc : Thread nD τ).loc main_arg7)))) (m ((c.tc : Thread nD τ).loc main_arg8)) (m ((c.tc : Thread nD τ).loc main_arg9))) := by
  rw [tail0]
  funext i
  exact (congrArg _ (eq_ix3 i)).trans ((out_meets_at h (i 0) (i 1) (i 2)).trans (congrArg _ (eq_ix3 i).symm))

/-- The second result. -/
theorem balance_meets (h : Real m c) : Pipeline.afterTail₀ cfgs (dats m) 0 (V0 m) [hostOps1] c main_v0_1 = rBalance (scoresHere m c) := by
  rw [tail1]
  funext j
  rw [entry_apply _ 0 (by decide)]
  exact (stats_0 _).trans (Cert.ReferenceIdeal.Value.rBalance_eq _ _ (rows_meet h) j).symm

/-- The third result. -/
theorem zloss_meets (h : Real m c) : Pipeline.afterTail₀ cfgs (dats m) 0 (V0 m) [hostOps1] c main_v0_2 = rZloss (scoresHere m c) := by
  rw [tail2]
  funext j
  rw [entry_apply _ 1 (by decide)]
  exact (stats_1 _).trans (Cert.ReferenceIdeal.Value.rZloss_eq _ _ (rows_meet h) j).symm

/-- The fourth result. -/
theorem entropy_meets (h : Real m c) : Pipeline.afterTail₀ cfgs (dats m) 0 (V0 m) [hostOps1] c main_v0_3 = rEntropy (scoresHere m c) := by
  rw [tail3]
  funext j
  rw [entry_apply _ 2 (by decide)]
  exact (stats_2 _).trans (Cert.ReferenceIdeal.Value.rEntropy_eq _ _ (rows_meet h) j).symm

/-- The fifth result. -/
theorem total_meets (h : Real m c) : Pipeline.afterTail₀ cfgs (dats m) 0 (V0 m) [hostOps1] c main_v0_4 = rTotal (scoresHere m c) := by
  rw [tail4]
  funext j
  rw [entry_apply _ 3 (by decide)]
  exact (stats_3 _).trans (Cert.ReferenceIdeal.Value.rTotal_eq _ _ (rows_meet h) j).symm

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Meet
public import Idealize.ShloMosaic.Adequacy
public import Idealize.ShloMosaic.Init

@[expose] public section

noncomputable section

namespace Cert.Proof

open Idealize.ShloMosaic Idealize.SL.Sem

/-- The shape relations the precondition states. -/
theorem preFacts : Cert.Pre_router_weights_finite.Facts := by
  constructor <;> decide

/-- The reference's frame: its arguments end unchanged; it declares no semaphore. -/
theorem reference_frame : Cert.quiescent_ReferenceIdeal (hReferenceIdeal := Cert.ReferenceIdeal.Gen.facts) := by
  intro m ρ _
  exact (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The precondition makes the layer norm's and the router's weights and biases real, on every device. -/
theorem real_of_pre (m : (ℓ : Loc Cert.KernelIdeal.nD Cert.KernelIdeal.τ Cert.KernelIdeal.sig) → Buf (Elt Ideal) ℓ)
    (h : Cert.Pre_KernelIdeal_router_weights_finite (hPre_router_weights_finite := preFacts) m) (c : Dev Cert.KernelIdeal.nD) :
    Cert.KernelIdeal.Body.Real m c :=
  haveI := preFacts
  Cert.Plain.fine_inputs _ _ _ _ _ _ _ _ _ _ (h c)

/-- The kernel and the reference, from the same arguments, end with the same five results and the arguments unchanged. -/
theorem same_results : Cert.algebraic_KernelIdeal_ReferenceIdeal_pre_router_weights_finite (hKernelIdeal := Cert.KernelIdeal.Gen.facts)
    (hReferenceIdeal := Cert.ReferenceIdeal.Gen.facts) (hPre_router_weights_finite := preFacts) := by
  intro m g m' g' hpre hargs
  have hreal := fun c => real_of_pre m hpre c
  refine ⟨fun c => Pipeline.afterTail₀ Cert.KernelIdeal.cfgs (Cert.KernelIdeal.Body.dats m) 0 (Cert.KernelIdeal.Gen.V0 m) [Cert.KernelIdeal.Gen.hostOps1] c Cert.KernelIdeal.main_v0_0,
    fun c => Pipeline.afterTail₀ Cert.KernelIdeal.cfgs (Cert.KernelIdeal.Body.dats m) 0 (Cert.KernelIdeal.Gen.V0 m) [Cert.KernelIdeal.Gen.hostOps1] c Cert.KernelIdeal.main_v0_1,
    fun c => Pipeline.afterTail₀ Cert.KernelIdeal.cfgs (Cert.KernelIdeal.Body.dats m) 0 (Cert.KernelIdeal.Gen.V0 m) [Cert.KernelIdeal.Gen.hostOps1] c Cert.KernelIdeal.main_v0_2,
    fun c => Pipeline.afterTail₀ Cert.KernelIdeal.cfgs (Cert.KernelIdeal.Body.dats m) 0 (Cert.KernelIdeal.Gen.V0 m) [Cert.KernelIdeal.Gen.hostOps1] c Cert.KernelIdeal.main_v0_3,
    fun c => Pipeline.afterTail₀ Cert.KernelIdeal.cfgs (Cert.KernelIdeal.Body.dats m) 0 (Cert.KernelIdeal.Gen.V0 m) [Cert.KernelIdeal.Gen.hostOps1] c Cert.KernelIdeal.main_v0_4, ?_, ?_⟩
  · refine (θ_run Cert.KernelIdeal.defs _ _).mono ?_ (θ_run_and (Cert.KernelIdeal.Body.run_all m g) (Cert.KernelIdeal.Body.frame_all m g))
    rintro r ⟨⟨h, _⟩, h', _⟩ c
    exact ⟨(h c).2 Cert.KernelIdeal.main_v0_0 (Pipeline.mem_restRefs_of _ (by decide) (by decide)),
      (h c).2 Cert.KernelIdeal.main_v0_1 (Pipeline.mem_restRefs_of _ (by decide) (by decide)),
      (h c).2 Cert.KernelIdeal.main_v0_2 (Pipeline.mem_restRefs_of _ (by decide) (by decide)),
      (h c).2 Cert.KernelIdeal.main_v0_3 (Pipeline.mem_restRefs_of _ (by decide) (by decide)),
      (h c).2 Cert.KernelIdeal.main_v0_4 (Pipeline.mem_restRefs_of _ (by decide) (by decide)), h' c⟩
  · refine (θ_run Cert.ReferenceIdeal.defs _ _).mono ?_ (Cert.ReferenceIdeal.Value.run (F := Ideal) m' g')
    intro r h c
    obtain ⟨e0, e1, e2, e3, e4, e5, e6, e7, e8, e9⟩ := hargs c
    have hs : Cert.ReferenceIdeal.Value.scoresOf m' c = Cert.KernelIdeal.Body.scoresHere m c := by
      unfold Cert.ReferenceIdeal.Value.scoresOf Cert.KernelIdeal.Body.scoresHere
      rw [e0, e1, e2, e3, e4, e5]
    obtain ⟨h0, h1, h2, h3, h4, hrest⟩ := h c
    refine ⟨?_, ?_, ?_, ?_, ?_, hrest⟩
    · refine (h0.trans (Cert.ReferenceIdeal.Value.res_63 m' c)).trans (Eq.trans ?_ (Cert.KernelIdeal.Body.out_meets (hreal c)).symm)
      rw [hs]
      unfold Cert.ReferenceIdeal.Value.allOf
      rw [e0, e6, e7, e8, e9]
    · refine (h1.trans (Cert.ReferenceIdeal.Value.res_82 m' c)).trans (Eq.trans ?_ (Cert.KernelIdeal.Body.balance_meets (hreal c)).symm)
      rw [hs]
    · refine (h2.trans (Cert.ReferenceIdeal.Value.res_94 m' c)).trans (Eq.trans ?_ (Cert.KernelIdeal.Body.zloss_meets (hreal c)).symm)
      rw [hs]
    · refine (h3.trans (Cert.ReferenceIdeal.Value.res_101 m' c)).trans (Eq.trans ?_ (Cert.KernelIdeal.Body.entropy_meets (hreal c)).symm)
      rw [hs]
    · refine (h4.trans (Cert.ReferenceIdeal.Value.res_105 m' c)).trans (Eq.trans ?_ (Cert.KernelIdeal.Body.total_meets (hreal c)).symm)
      rw [hs]

/-- Everything claimed: the frames of the kernel, of the kernel in exact arithmetic and of the reference, that nothing is lost between the two
    kernels, and that the kernel's results are the reference's. -/
theorem claim : Cert.Claim :=
  ⟨Cert.Kernel.Gen.facts, Cert.KernelIdeal.Gen.facts, Cert.ReferenceIdeal.Gen.facts, preFacts,
    fun m ρ _ => Cert.Kernel.Body.frame_all m ρ,
    fun m ρ _ => Cert.KernelIdeal.Body.frame_all m ρ,
    fun m ρ _ => Cert.KernelIdeal.Body.frame_all m ρ,
    reference_frame,
    fun m ρ _ => reference_frame m ρ trivial,
    trivial,
    same_results⟩

end Cert.Proof

end
